-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x8192 : Shape := ⟨3, ![2, 768, 8192]⟩
abbrev S2x768x64 : Shape := ⟨3, ![2, 768, 64]⟩
abbrev S8192 : Shape := ⟨1, ![8192]⟩
abbrev S2x768 : Shape := ⟨2, ![2, 768]⟩
abbrev S1536x8192 : Shape := ⟨2, ![1536, 8192]⟩
abbrev S1536x64 : Shape := ⟨2, ![1536, 64]⟩
abbrev S1x8192 : Shape := ⟨2, ![1, 8192]⟩
abbrev S1536x1 : Shape := ⟨2, ![1536, 1]⟩
abbrev S128x8192 : Shape := ⟨2, ![128, 8192]⟩
abbrev S128x64 : Shape := ⟨2, ![128, 64]⟩
abbrev S128x1 : Shape := ⟨2, ![128, 1]⟩
abbrev S128x128 : Shape := ⟨2, ![128, 128]⟩
abbrev S1x128 : Shape := ⟨2, ![1, 128]⟩
abbrev S128 : Shape := ⟨1, ![128]⟩
abbrev S1x252 : Shape := ⟨2, ![1, 252]⟩
abbrev S128x252 : Shape := ⟨2, ![128, 252]⟩

abbrev nBuf : Space → Nat
  | .hbm => 15
  | .vmem => 16
  | .smem => 0
  | _ => 0

abbrev bufTy : (tb : Table) → Fin (tcTables nBuf tb) → BufTy
  | .hbm, ⟨0, _⟩ => ⟨S2x768x8192, .fp8e4m3⟩
  | .hbm, ⟨1, _⟩ => ⟨S2x768x64, .f32⟩
  | .hbm, ⟨2, _⟩ => ⟨S2x768x8192, .fp8e5m2⟩
  | .hbm, ⟨3, _⟩ => ⟨S2x768x64, .f32⟩
  | .hbm, ⟨4, _⟩ => ⟨S8192, .f32⟩
  | .hbm, ⟨5, _⟩ => ⟨S2x768, .f32⟩
  | .hbm, ⟨6, _⟩ => ⟨S1536x8192, .fp8e4m3⟩
  | .hbm, ⟨7, _⟩ => ⟨S1536x64, .f32⟩
  | .hbm, ⟨8, _⟩ => ⟨S1536x8192, .fp8e5m2⟩
  | .hbm, ⟨9, _⟩ => ⟨S1536x64, .f32⟩
  | .hbm, ⟨10, _⟩ => ⟨S1x8192, .f32⟩
  | .hbm, ⟨11, _⟩ => ⟨S1536x1, .f32⟩
  | .hbm, ⟨12, _⟩ => ⟨S1x8192, .f32⟩
  | .hbm, ⟨13, _⟩ => ⟨S1536x8192, .fp8e4m3⟩
  | .hbm, ⟨14, _⟩ => ⟨S1536x64, .f32⟩
  | .local _ .vmem, ⟨0, _⟩ => ⟨S128x8192, .fp8e4m3⟩
  | .local _ .vmem, ⟨1, _⟩ => ⟨S128x8192, .fp8e4m3⟩
  | .local _ .vmem, ⟨2, _⟩ => ⟨S128x64, .f32⟩
  | .local _ .vmem, ⟨3, _⟩ => ⟨S128x64, .f32⟩
  | .local _ .vmem, ⟨4, _⟩ => ⟨S128x8192, .fp8e5m2⟩
  | .local _ .vmem, ⟨5, _⟩ => ⟨S128x8192, .fp8e5m2⟩
  | .local _ .vmem, ⟨6, _⟩ => ⟨S128x64, .f32⟩
  | .local _ .vmem, ⟨7, _⟩ => ⟨S128x64, .f32⟩
  | .local _ .vmem, ⟨8, _⟩ => ⟨S1x8192, .f32⟩
  | .local _ .vmem, ⟨9, _⟩ => ⟨S128x1, .f32⟩
  | .local _ .vmem, ⟨10, _⟩ => ⟨S128x1, .f32⟩
  | .local _ .vmem, ⟨11, _⟩ => ⟨S1x8192, .f32⟩
  | .local _ .vmem, ⟨12, _⟩ => ⟨S128x8192, .fp8e4m3⟩
  | .local _ .vmem, ⟨13, _⟩ => ⟨S128x8192, .fp8e4m3⟩
  | .local _ .vmem, ⟨14, _⟩ => ⟨S128x64, .f32⟩
  | .local _ .vmem, ⟨15, _⟩ => ⟨S128x64, .f32⟩
  | _, _ => ⟨S2x768x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x768x8192 : Shape := ⟨3, ![2, 768, 8192]⟩
abbrev S2x768x64 : Shape := ⟨3, ![2, 768, 64]⟩
abbrev S8192 : Shape := ⟨1, ![8192]⟩
abbrev S2x768 : Shape := ⟨2, ![2, 768]⟩
abbrev S1x8192 : Shape := ⟨2, ![1, 8192]⟩
abbrev S1536x8192 : Shape := ⟨2, ![1536, 8192]⟩
abbrev S1536x64 : Shape := ⟨2, ![1536, 64]⟩
abbrev S1536x64x128 : Shape := ⟨3, ![1536, 64, 128]⟩
abbrev S1536x64x1 : Shape := ⟨3, ![1536, 64, 1]⟩
abbrev S1x64x128 : Shape := ⟨3, ![1, 64, 128]⟩
abbrev S1536x1x1 : Shape := ⟨3, ![1536, 1, 1]⟩
abbrev S1536 : Shape := ⟨1, ![1536]⟩
abbrev S64x128 : Shape := ⟨2, ![64, 128]⟩

abbrev nBuf : Space → Nat
  | .hbm => 9
  | .vmem => 9
  | .smem => 0
  | _ => 0

abbrev bufTy : (tb : Table) → Fin (tcTables nBuf tb) → BufTy
  | .hbm, ⟨0, _⟩ => ⟨S2x768x8192, .fp8e4m3⟩
  | .hbm, ⟨1, _⟩ => ⟨S2x768x64, .f32⟩
  | .hbm, ⟨2, _⟩ => ⟨S2x768x8192, .fp8e5m2⟩
  | .hbm, ⟨3, _⟩ => ⟨S2x768x64, .f32⟩
  | .hbm, ⟨4, _⟩ => ⟨S8192, .f32⟩
  | .hbm, ⟨5, _⟩ => ⟨S2x768, .f32⟩
  | .hbm, ⟨6, _⟩ => ⟨S1x8192, .f32⟩
  | .hbm, ⟨7, _⟩ => ⟨S1536x8192, .fp8e4m3⟩
  | .hbm, ⟨8, _⟩ => ⟨S1536x64, .f32⟩
  | .local _ .vmem, ⟨0, _⟩ => ⟨S2x768x8192, .fp8e4m3⟩
  | .local _ .vmem, ⟨1, _⟩ => ⟨S2x768x64, .f32⟩
  | .local _ .vmem, ⟨2, _⟩ => ⟨S2x768x8192, .fp8e5m2⟩
  | .local _ .vmem, ⟨3, _⟩ => ⟨S2x768x64, .f32⟩
  | .local _ .vmem, ⟨4, _⟩ => ⟨S8192, .f32⟩
  | .local _ .vmem, ⟨5, _⟩ => ⟨S2x768, .f32⟩
  | .local _ .vmem, ⟨6, _⟩ => ⟨S1x8192, .f32⟩
  | .local _ .vmem, ⟨7, _⟩ => ⟨S1536x8192, .fp8e4m3⟩
  | .local _ .vmem, ⟨8, _⟩ => ⟨S1536x64, .f32⟩
  | _, _ => ⟨S2x768x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x768x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x8192 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Block.lean ====
/- What the kernel computes for ONE block of 128 channels of its 128 rows, as functions of the block's number: the
   64 blocks of the body are this one text at 64 numbers. Written with the program's own operations, at any reading of
   the floats. -/
module

public import proofs.«01_k».proof.Proof.Gen.KernelIdeal.Skeleton

@[expose] public section

set_option maxRecDepth 16384

noncomputable section

namespace Cert.Proof

open Cert.KernelIdeal Cert.KernelIdeal.Gen Idealize.ShloMosaic

variable {F : FTy → Type} [FloatOps F]

/-- What the body loads at one grid point: the rows' reciprocal norms, the two arrays of block scales, and for each
    block of channels the two arrays of codes and the weights. -/
structure Loads (F : FTy → Type) [FloatOps F] where
  rstd : Vec F S128x1 .f32
  xs : Vec F S128x64 .f32
  dys : Vec F S128x64 .f32
  x : Fin 64 → Vec F S128x128 .fp8e4m3
  dy : Fin 64 → Vec F S128x128 .fp8e5m2
  gamma : Fin 64 → Vec F S1x128 .f32

theorem slices_col (b : Fin 64) : S128x64.Slices ![0, b.val] S128x1 :=
  ⟨rfl, fun a => match a with
    | 0 => Nat.le_refl _
    | 1 => by show b.val + 1 ≤ 64; omega⟩

theorem inb_row (b : Fin 64) : ∀ a, ![0, 128 * b.val] a + S1x128.size a ≤ S1x8192.size a := fun a => match a with
  | 0 => Nat.le_refl _
  | 1 => by show 128 * b.val + 128 ≤ 8192; omega

theorem inb_block (b : Fin 64) : ∀ a, ![0, 128 * b.val] a + S128x128.size a ≤ S128x8192.size a := fun a => match a with
  | 0 => Nat.le_refl _
  | 1 => by show 128 * b.val + 128 ≤ 8192; omega

theorem inb_col (b : Fin 64) : ∀ a, ![0, b.val] a + S128x1.size a ≤ S128x64.size a := fun a => match a with
  | 0 => Nat.le_refl _
  | 1 => by show b.val + 1 ≤ 64; omega

/-- Where block `b` lies in a row of channels, in the rows' codes, in the rows' scales. -/
abbrev rowRect (b : Fin 64) : Rect S1x8192 := Rect.unit ![0, 128 * b.val] S1x128.size (inb_row b)
abbrev blockRect (b : Fin 64) : Rect S128x8192 := Rect.unit ![0, 128 * b.val] S128x128.size (inb_block b)
abbrev colRect (b : Fin 64) : Rect S128x64 := Rect.unit ![0, b.val] S128x1.size (inb_col b)

variable (L : Loads F)

/-- The reciprocal norms, and the scales of `x` times them. -/
def rK : FVec F S128x1 .f32 := shapeCast S128x1 L.rstd shapeCasts_S128x1_S128x1
def xsK : FVec F S128x64 .f32 :=
  mulf (shapeCast S128x64 L.xs shapeCasts_S128x64_S128x64) (broadcastTo S128x64 (rK L) broadcasts_S128x1_S128x64)
def dysK : FVec F S128x64 .f32 := shapeCast S128x64 L.dys shapeCasts_S128x64_S128x64

/-- A column of per-row numbers spread over the 128 lanes. -/
def spread (v : FVec F S128x1 .f32) : FVec F S128x128 .f32 := broadcastTo S128x128 v broadcasts_S128x1_S128x128

/-- The normalized input, the gradient, their product, and the weights of block `b`. -/
def xhatK (b : Fin 64) : FVec F S128x128 .f32 :=
  mulf (extf .f32 (shapeCast S128x128 (L.x b) shapeCasts_S128x128_S128x128) bitsLt_fp8e4m3_f32)
    (spread (extractStridedSlice S128x1 ![0, b.val] (xsK L) (slices_col b)))
def dyK (b : Fin 64) : FVec F S128x128 .f32 :=
  mulf (extf .f32 (shapeCast S128x128 (L.dy b) shapeCasts_S128x128_S128x128) bitsLt_fp8e5m2_f32)
    (spread (extractStridedSlice S128x1 ![0, b.val] (dysK L) (slices_col b)))
def prodK (b : Fin 64) : FVec F S128x128 .f32 := mulf (dyK L b) (xhatK L b)
def gammaK (b : Fin 64) : FVec F S128x128 .f32 :=
  broadcastTo S128x128 (shapeCast S1x128 (L.gamma b) shapeCasts_S1x128_S1x128) broadcasts_S1x128_S128x128

/-- Block `b`'s part of the weights' gradient, added to what the row held there. -/
def dgammaK (v : Vec F S1x128 .f32) (b : Fin 64) : FVec F S1x128 .f32 :=
  addf (shapeCast S1x128 v shapeCasts_S1x128_S1x128)
    (shapeCast S1x128 (multiReduction .add [0] S128 (prodK L b) 0x00000000#32 reduces_S128x128_S128 (.inl rfl) rfl)
      shapeCasts_S128_S1x128)

/-- The running sum over the blocks before `n`, lane by lane; -/
def accK : (n : ℕ) → n ≤ 64 → FVec F S128x128 .f32
  | 0, _ => broadcast S128x128 (Scalar.ofBits .f32 0x00000000#32)
  | n + 1, h => addf (accK n (Nat.le_of_succ_le h)) (mulf (prodK L ⟨n, h⟩) (gammaK L ⟨n, h⟩))

/-- … and the row's mean of gradient times normalized input. -/
def cK : FVec F S128x1 .f32 :=
  mulf (shapeCast S128x1 (multiReduction .add [1] S128 (accK L 64 (Nat.le_refl 64)) 0x00000000#32 reduces_S128x128_S128_2 (.inl rfl) rfl)
      shapeCasts_S128_S128x1)
    (broadcast S128x1 (Scalar.ofBits .f32 0x39000000#32))

/-- The powers of two `2 ^ -126 … 2 ^ 125`. -/
def powersK : FVec F S1x252 .f32 :=
  bitcastToFloat .f32 (shli (addi (iota .tc S1x252 32 [1] iota_S1x252_d1_w32) (broadcast S1x252 1#32)) (broadcast S1x252 23#32))

/-- The gradient of block `b`. -/
def dxK (b : Fin 64) : FVec F S128x128 .f32 :=
  mulf (spread (rK L)) (subf (mulf (dyK L b) (gammaK L b)) (mulf (xhatK L b) (spread (cK L))))

/-- The count of the powers of two that the block's largest magnitude over 448 reaches, in the exponent field. -/
def bitsK (b : Fin 64) : IVec S128x1 32 :=
  shli (shapeCast S128x1 (multiReductionI .add [1] S128
      (extui 32 (cmpf .oge
        (broadcastTo S128x252 (mulf (shapeCast S128x1 (multiReduction .maximumf [1] S128 (absf (dxK L b)) 0xFF800000#32 reduces_S128x128_S128_2 (.inl rfl) rfl)
          shapeCasts_S128_S128x1) (broadcast S128x1 (Scalar.ofBits .f32 0x3B124925#32))) broadcasts_S128x1_S128x252)
        (broadcastTo S128x252 (powersK (F := F)) broadcasts_S1x252_S128x252)) natLt_1_32) 0#32 reduces_S128x252_S128 rfl)
      shapeCasts_S128_S128x1) (broadcast S128x1 23#32)

/-- The block's exponent, -/
def expoK (b : Fin 64) : IVec S128x1 32 :=
  select (cmpi .slt (bitsK L b) (broadcast S128x1 8388608#32)) (broadcast S128x1 0#32)
    (subi (shrsi (bitsK L b) (broadcast S128x1 23#32)) (broadcast S128x1 126#32))

/-- its scale, -/
def scaleK (b : Fin 64) : FVec F S128x1 .f32 :=
  bitcastToFloat .f32 (shli (addi (expoK L b) (broadcast S128x1 127#32)) (broadcast S128x1 23#32))

/-- and its codes. -/
def codesK (b : Fin 64) : FVec F S128x128 .fp8e4m3 :=
  truncf .fp8e4m3 (minimumf (broadcast S128x128 (Scalar.ofBits .f32 0x43E00000#32))
    (maximumf (broadcast S128x128 (Scalar.ofBits .f32 0xC3E00000#32))
      (mulf (dxK L b) (spread (bitcastToFloat .f32 (shli (addi (subi (broadcast S128x1 0#32) (expoK L b)) (broadcast S128x1 127#32)) (broadcast S128x1 23#32)))))))
    bitsLt_fp8e4m3_f32

/-- One store per block, the last first. -/
def stores {S : Shape} {e : EltTy} (f : Fin 64 → View.Piece (Elt F) S e) : (n : ℕ) → n ≤ 64 → List (View.Piece (Elt F) S e)
  | 0, _ => []
  | n + 1, h => f ⟨n, h⟩ :: stores f n (Nat.le_of_succ_le h)

/-- The stores of a grid point into the codes and into the scales; -/
def codeStores : List (View.Piece (Elt F) S128x8192 .fp8e4m3) := stores (fun b => ⟨blockRect b, codesK L b⟩) 64 (Nat.le_refl 64)
def scaleStores : List (View.Piece (Elt F) S128x64 .f32) := stores (fun b => ⟨colRect b, scaleK L b⟩) 64 (Nat.le_refl 64)

/-- into the weights' gradient, over a row whose block `b` held `old b`; -/
def gradStores (old : Fin 64 → Vec F S1x128 .f32) : List (View.Piece (Elt F) S1x8192 .f32) :=
  stores (fun b => ⟨rowRect b, dgammaK L (old b) b⟩) 64 (Nat.le_refl 64)

/-- and into the weights' gradient at the first grid point: the row zeroed, then each block read back and added to. -/
def gradStores0 (arg7 : Memref sig .tc .vmem S1x8192 .f32) : (n : ℕ) → n ≤ 64 → List (View.Piece (Elt F) S1x8192 .f32)
  | 0, _ => [⟨Rect.unit ![0, 0] S1x8192.size inb_S1x8192_S1x8192_0_0, broadcast S1x8192 (Scalar.ofBits .f32 0x00000000#32)⟩]
  | n + 1, h =>
    ⟨rowRect ⟨n, h⟩, dgammaK L (arg7.view.readCov (gradStores0 arg7 n (Nat.le_of_succ_le h)) (rowRect ⟨n, h⟩).toLoadRect) ⟨n, h⟩⟩
      :: gradStores0 arg7 n (Nat.le_of_succ_le h)

end Cert.Proof

end
-- ==== Proof.Stores.lean ====
/- The stores of the kernel's run, at each of its two kinds of grid point, are the 64 blocks' stores. -/
module

public import proofs.«01_k».proof.Proof.Block
public import proofs.«01_k».proof.Proof.Gen.KernelIdeal.Frame

@[expose] public section

set_option maxRecDepth 16384

noncomputable section

namespace Cert.Proof

open Cert.KernelIdeal Cert.KernelIdeal.Gen Idealize.ShloMosaic Idealize.ShloMosaic.TcCoe Idealize.ShloMosaic.Tactic

variable {F : FTy → Type} [FloatOps F]

section
variable (c : Dev nD) (i : grid0.Coords) (arg1 : Memref sig .tc .vmem S128x8192 .fp8e4m3) (harg1 : arg1.IsWhole) (arg2 : Memref sig .tc .vmem S128x64 .f32) (harg2 : arg2.IsWhole) (arg3 : Memref sig .tc .vmem S128x8192 .fp8e5m2) (harg3 : arg3.IsWhole) (arg4 : Memref sig .tc .vmem S128x64 .f32) (harg4 : arg4.IsWhole) (arg5 : Memref sig .tc .vmem S1x8192 .f32) (harg5 : arg5.IsWhole) (arg6 : Memref sig .tc .vmem S128x1 .f32) (harg6 : arg6.IsWhole) (arg7 : Memref sig .tc .vmem S1x8192 .f32) (harg7 : arg7.IsWhole) (arg8 : Memref sig .tc .vmem S128x8192 .fp8e4m3) (harg8 : arg8.IsWhole) (arg9 : Memref sig .tc .vmem S128x64 .f32) (harg9 : arg9.IsWhole)
  (x0 : Vec F S128x8192 .fp8e4m3) (x1 : Vec F S128x64 .f32) (x2 : Vec F S128x8192 .fp8e5m2) (x3 : Vec F S128x64 .f32) (x4 : Vec F S1x8192 .f32) (x5 : Vec F S128x1 .f32) (xo6 : Vec F S1x8192 .f32)

/-- The loads as the run makes them: each a rectangle of a staging buffer holding the window's block. -/
def runLoads : Loads F where
  rstd := View.readAt (Elt F) arg6.view (Rect.unit ![0, 0] S128x1.size inb_S128x1_S128x1_0_0).toLoadRect (harg6.unread x5)
  xs := View.readAt (Elt F) arg2.view (Rect.unit ![0, 0] S128x64.size inb_S128x64_S128x64_0_0).toLoadRect (harg2.unread x1)
  dys := View.readAt (Elt F) arg4.view (Rect.unit ![0, 0] S128x64.size inb_S128x64_S128x64_0_0).toLoadRect (harg4.unread x3)
  x b := View.readAt (Elt F) arg1.view (blockRect b).toLoadRect (harg1.unread x0)
  dy b := View.readAt (Elt F) arg3.view (blockRect b).toLoadRect (harg3.unread x2)
  gamma b := View.readAt (Elt F) arg5.view (rowRect b).toLoadRect (harg5.unread x4)

/-- At the first point, the stores into the weights' gradient. -/
theorem runA_grad (hc0 : cond0_0 i) : (kernelRun0_A c i arg1 harg1 arg2 harg2 arg3 harg3 arg4 harg4 arg5 harg5 arg6 harg6 arg7 harg7 arg8 harg8 arg9 harg9 hc0 x0 x1 x2 x3 x4 x5).1
    = gradStores0 (runLoads arg1 harg1 arg2 harg2 arg3 harg3 arg4 harg4 arg5 harg5 arg6 harg6 x0 x1 x2 x3 x4 x5) arg7 64 (Nat.le_refl 64) := by
  sl_kernel_rfl

/-- At the first point, the stores into the codes. -/
theorem runA_code (hc0 : cond0_0 i) : (kernelRun0_A c i arg1 harg1 arg2 harg2 arg3 harg3 arg4 harg4 arg5 harg5 arg6 harg6 arg7 harg7 arg8 harg8 arg9 harg9 hc0 x0 x1 x2 x3 x4 x5).2.1
    = codeStores (runLoads arg1 harg1 arg2 harg2 arg3 harg3 arg4 harg4 arg5 harg5 arg6 harg6 x0 x1 x2 x3 x4 x5) := by
  sl_kernel_rfl

/-- At the first point, the stores into the scales. -/
theorem runA_scale (hc0 : cond0_0 i) : (kernelRun0_A c i arg1 harg1 arg2 harg2 arg3 harg3 arg4 harg4 arg5 harg5 arg6 harg6 arg7 harg7 arg8 harg8 arg9 harg9 hc0 x0 x1 x2 x3 x4 x5).2.2.1
    = scaleStores (runLoads arg1 harg1 arg2 harg2 arg3 harg3 arg4 harg4 arg5 harg5 arg6 harg6 x0 x1 x2 x3 x4 x5) := by
  sl_kernel_rfl

/-- At every later point, the stores into the weights' gradient. -/
theorem runB_grad (hc0 : ¬cond0_0 i) : (kernelRun0_B c i arg1 harg1 arg2 harg2 arg3 harg3 arg4 harg4 arg5 harg5 arg6 harg6 arg7 harg7 arg8 harg8 arg9 harg9 hc0 x0 x1 x2 x3 x4 x5 xo6).1
    = gradStores (runLoads arg1 harg1 arg2 harg2 arg3 harg3 arg4 harg4 arg5 harg5 arg6 harg6 x0 x1 x2 x3 x4 x5) fun b => View.readAt (Elt F) arg7.view (rowRect b).toLoadRect (harg7.unread xo6) := by
  sl_kernel_rfl

/-- At every later point, the stores into the codes. -/
theorem runB_code (hc0 : ¬cond0_0 i) : (kernelRun0_B c i arg1 harg1 arg2 harg2 arg3 harg3 arg4 harg4 arg5 harg5 arg6 harg6 arg7 harg7 arg8 harg8 arg9 harg9 hc0 x0 x1 x2 x3 x4 x5 xo6).2.1
    = codeStores (runLoads arg1 harg1 arg2 harg2 arg3 harg3 arg4 harg4 arg5 harg5 arg6 harg6 x0 x1 x2 x3 x4 x5) := by
  sl_kernel_rfl

/-- At every later point, the stores into the scales. -/
theorem runB_scale (hc0 : ¬cond0_0 i) : (kernelRun0_B c i arg1 harg1 arg2 harg2 arg3 harg3 arg4 harg4 arg5 harg5 arg6 harg6 arg7 harg7 arg8 harg8 arg9 harg9 hc0 x0 x1 x2 x3 x4 x5 xo6).2.2.1
    = scaleStores (runLoads arg1 harg1 arg2 harg2 arg3 harg3 arg4 harg4 arg5 harg5 arg6 harg6 x0 x1 x2 x3 x4 x5) := by
  sl_kernel_rfl

end

end Cert.Proof

end
-- ==== Proof.Exponent.lean ====
/- The exponent of a block's scale, as pure arithmetic: counting the powers of two that a value reaches gives the
   same power of two as the floor of its base-two logarithm. -/
module

public import Idealize.ShloMosaic.Lib.Pointwise

@[expose] public section

set_option maxRecDepth 16384

noncomputable section

namespace Cert.Proof

open Idealize.ShloMosaic

/-- `2 ^ k` as an extended real. -/
def pow2 (k : ℤ) : EReal := (((2 : ℝ) ^ k : ℝ) : EReal)

/-- An f32 word with exponent field `k` (neither all zeros nor all ones) and no fraction denotes `2 ^ (k - 127)`. -/
theorem ofBits_field (k : ℕ) (h1 : 1 ≤ k) (h2 : k ≤ 254) :
    Ideal.ofBits .f32 (BitVec.ofNat 32 k <<< 23) = pow2 ((k : ℤ) - 127) := by
  have hs : ∀ k : Fin 255, ((BitVec.ofNat 32 k.val <<< 23).extractLsb' 31 1 == 1#1) = false
      ∧ ((BitVec.ofNat 32 k.val <<< 23).extractLsb' 23 8).toNat = k.val
      ∧ ((BitVec.ofNat 32 k.val <<< 23).extractLsb' 0 23).toNat = 0 := by decide +kernel
  obtain ⟨a, b, c⟩ := hs ⟨k, by omega⟩
  simp only at a b c
  have hz : (2 : ℝ) ^ ((k : ℤ) - 127 - 23) * 2 ^ (23 : ℤ) = 2 ^ ((k : ℤ) - 127) := by
    rw [← zpow_add₀ (by norm_num : (2 : ℝ) ≠ 0), sub_add_cancel]
  show Ideal.ieee 8 23 _ = _
  unfold Ideal.ieee pow2
  simp only [Nat.reduceAdd, a, b, c]
  rw [if_neg (by omega), if_neg (by omega), ← hz, EReal.coe_eq_coe_iff]
  norm_num
  rw [mul_comm]

/-- How many of the powers `2 ^ -126 … 2 ^ 125` the value `v` reaches. -/
def level (v : EReal) : ℕ := (Finset.univ.filter fun j : Fin 252 => pow2 ((j.val : ℤ) - 126) ≤ v).card

theorem level_le (v : EReal) : level v ≤ 252 := by
  unfold level
  exact (Finset.card_filter_le _ _).trans (by simp)

/-- The least power of two above `v`, as an exponent: what the plain formula computes, with its two ends. -/
def expo (v : EReal) : ℤ := if level v = 0 then 0 else (level v : ℤ) - 126

theorem pow2_le_coe (k : ℤ) (r : ℝ) : pow2 k ≤ (r : EReal) ↔ (2 : ℝ) ^ k ≤ r := by
  unfold pow2; exact EReal.coe_le_coe_iff

theorem card_lt (n : ℕ) (h : n ≤ 252) : (Finset.univ.filter fun j : Fin 252 => j.val < n).card = n := by
  rw [Fin.card_filter_val_lt]; omega

/-- No power is reached below the smallest one. -/
theorem level_small (v : EReal) (h : v < pow2 (-126)) : level v = 0 := by
  unfold level
  rw [Finset.card_eq_zero, Finset.filter_eq_empty_iff]
  intro j _ hj
  refine absurd (hj.trans_lt h) (not_lt.mpr ?_)
  unfold pow2
  rw [EReal.coe_le_coe_iff]
  exact zpow_le_zpow_right₀ (by norm_num) (by omega)

/-- Infinity reaches all. -/
theorem level_top : level ⊤ = 252 := by
  unfold level; simp

/-- A real reaches `2 ^ k` exactly when `k` is at most the floor of its base-two logarithm. -/
theorem zpow_le_iff (r : ℝ) (hr : 0 < r) (k : ℤ) : (2 : ℝ) ^ k ≤ r ↔ k ≤ ⌊Real.log r / Real.log 2⌋ := by
  rw [Int.le_floor, le_div_iff₀ (Real.log_pos (by norm_num)), ← Real.log_zpow,
    Real.log_le_log_iff (by positivity) hr]

/-- A real value reaches the powers up to the floor of its logarithm. -/
theorem level_coe (r : ℝ) (h : (2 : ℝ) ^ (-126 : ℤ) ≤ r) :
    (level (r : EReal) : ℤ) = min 252 (⌊Real.log r / Real.log 2⌋ + 127) := by
  have hr : 0 < r := lt_of_lt_of_le (by positivity) h
  have key := zpow_le_iff r hr
  have h0 := (key (-126)).mp h
  have : level (r : EReal) = (min 252 (⌊Real.log r / Real.log 2⌋ + 127)).toNat := by
    unfold level
    rw [← card_lt (min 252 (⌊Real.log r / Real.log 2⌋ + 127)).toNat (by omega)]
    congr 1
    ext j
    simp only [Finset.mem_filter, Finset.mem_univ, true_and, pow2_le_coe, key]
    have := j.isLt
    omega
  omega

theorem log_coe (r : ℝ) (h : 0 < r) : Ideal.log (r : EReal) = ((Real.log r : ℝ) : EReal) := if_neg (not_le.mpr h)

theorem floor_coe (r : ℝ) : Ideal.liftRound Int.floor (r : EReal) = (((⌊r⌋ : ℤ) : ℝ) : EReal) := rfl

theorem log_two_pos : (0 : ℝ) < Real.log 2 := Real.log_pos (by norm_num)

/-- The plain formula's exponent: zero below the smallest normal number, otherwise the floor of the base-two logarithm
    plus one, at most 126. -/
def refExpo (v : EReal) : EReal :=
  if v < pow2 (-126) then 0
  else min (Ideal.liftRound Int.floor (Ideal.div (Ideal.log v) (Ideal.log ((2 : ℝ) : EReal))) + 1) ((126 : ℝ) : EReal)

theorem refExpo_eq (v : EReal) : refExpo v = ((expo v : ℝ) : EReal) := by
  unfold refExpo
  split
  · next h => simp [expo, level_small v h]
  · next h =>
    have hl2 : Ideal.log ((2 : ℝ) : EReal) = ((Real.log 2 : ℝ) : EReal) := log_coe 2 (by norm_num)
    have hne : ((Real.log 2 : ℝ) : EReal) ≠ 0 := by
      rw [Ne, EReal.coe_eq_zero]; exact log_two_pos.ne'
    rw [hl2]
    unfold Ideal.div
    rw [if_neg hne]
    induction v with
    | bot => exact absurd (EReal.bot_lt_coe _) h
    | top =>
      have : (⊤ : EReal) * ((Real.log 2 : ℝ) : EReal)⁻¹ = ⊤ := by
        rw [← EReal.coe_inv]; exact EReal.top_mul_coe_of_pos (inv_pos.mpr log_two_pos)
      have hf : Ideal.liftRound Int.floor (Ideal.log ⊤ * ((Real.log 2 : ℝ) : EReal)⁻¹) = ⊤ := by
        show Ideal.liftRound Int.floor ((⊤ : EReal) * ((Real.log 2 : ℝ) : EReal)⁻¹) = ⊤
        rw [this]; rfl
      rw [hf, ← EReal.coe_one, EReal.top_add_coe, min_eq_right le_top]
      simp [expo, level_top]
    | coe r =>
      rw [not_lt, pow2_le_coe] at h
      have hr : 0 < r := lt_of_lt_of_le (by positivity) h
      have hl := level_coe r h
      have h0 : -126 ≤ ⌊Real.log r / Real.log 2⌋ := (zpow_le_iff r hr _).mp h
      have hlog : Ideal.log (r : EReal) = ((Real.log r : ℝ) : EReal) := log_coe r hr
      rw [hlog, ← EReal.coe_inv, ← EReal.coe_mul, ← div_eq_mul_inv]
      rw [floor_coe]
      have he : expo (r : EReal) = min (⌊Real.log r / Real.log 2⌋ + 1) 126 := by
        unfold expo
        rw [if_neg (by omega)]; omega
      rw [he, ← EReal.coe_one, ← EReal.coe_add, ← EReal.coe_strictMono.monotone.map_min]
      congr 1
      push_cast
      rfl

theorem exp2_int (k : ℤ) : Ideal.exp2 (((k : ℤ) : ℝ) : EReal) = pow2 k := by
  show ((Real.rpow 2 (k : ℝ) : ℝ) : EReal) = _
  unfold pow2
  congr 1
  exact Real.rpow_intCast 2 k

theorem exp2_neg_int (k : ℤ) : Ideal.exp2 (-(((k : ℤ) : ℝ) : EReal)) = pow2 (-k) := by
  rw [← exp2_int]; push_cast; rfl

/-- The word the kernel takes for the exponent, from the count `n` of the powers reached. -/
def expoWord (n : BitVec 32) : BitVec 32 :=
  Scalar.select (IntOp.cmpi .slt (IntOp.shli .vector n 23#32) 8388608#32) 0#32
    (IntOp.subi (IntOp.shrsi .vector (IntOp.shli .vector n 23#32) 23#32) 126#32)

/-- Biased by 127 and shifted into the exponent field, the kernel's exponent word denotes two to the exponent; -/
theorem scale_word (v : EReal) :
    Ideal.ofBits .f32 (IntOp.shli .vector (IntOp.addi (expoWord (BitVec.ofNat 32 (level v))) 127#32) 23#32) = pow2 (expo v) := by
  have hs : ∀ n : Fin 253, IntOp.shli .vector (IntOp.addi (expoWord (BitVec.ofNat 32 n.val)) 127#32) 23#32
      = BitVec.ofNat 32 (if n.val = 0 then 127 else n.val + 1) <<< 23 := by decide +kernel
  have h := hs ⟨level v, by have := level_le v; omega⟩
  simp only at h
  have hl := level_le v
  rw [h, ofBits_field _ (by split <;> omega) (by split <;> omega)]
  unfold expo
  split
  · rfl
  · congr 1; push_cast; ring

/-- and the negated exponent, two to minus it. -/
theorem inv_word (v : EReal) :
    Ideal.ofBits .f32 (IntOp.shli .vector (IntOp.addi (IntOp.subi 0#32 (expoWord (BitVec.ofNat 32 (level v)))) 127#32) 23#32)
      = pow2 (-expo v) := by
  have hs : ∀ n : Fin 253, IntOp.shli .vector (IntOp.addi (IntOp.subi 0#32 (expoWord (BitVec.ofNat 32 n.val))) 127#32) 23#32
      = BitVec.ofNat 32 (if n.val = 0 then 127 else 253 - n.val) <<< 23 := by decide +kernel
  have h := hs ⟨level v, by have := level_le v; omega⟩
  simp only at h
  have hl := level_le v
  rw [h, ofBits_field _ (by split <;> omega) (by split <;> omega)]
  unfold expo
  split
  · rfl
  · congr 1; omega

/-- A sum of zeros and ones in 32-bit words counts the ones. -/
theorem fold_count {ι : Type} (s : Finset ι) (p : ι → Prop) [DecidablePred p] :
    s.fold IntOp.addi (0#32) (fun j => (BitVec.ofBool (decide (p j))).setWidth 32) = BitVec.ofNat 32 (s.filter p).card := by
  classical
  induction s using Finset.induction with
  | empty => simp
  | insert a s ha ih =>
    rw [Finset.fold_insert ha, ih, Finset.filter_insert]
    by_cases h : p a
    · rw [if_pos h, Finset.card_insert_of_notMem (fun hm => ha (Finset.mem_filter.mp hm).1)]
      simp only [h, decide_true, IntOp.addi]
      rw [Nat.add_comm, BitVec.ofNat_add]; rfl
    · rw [if_neg h]
      simp [h, IntOp.addi]

end Cert.Proof

end
-- ==== Proof.Spec.lean ====
/- The mathematics of the backward pass over the extended reals, row by row, block by block, lane by lane: what both
   programs are shown to compute. -/
module

public import proofs.«01_k».proof.Proof.Exponent
public import Idealize.ShloMosaic.Lib.Pointwise

@[expose] public section

noncomputable section

namespace Cert.Proof

open Idealize.ShloMosaic

/-- The six arguments by row, block of channels, and lane of the block. -/
structure Data where
  x : Fin 1536 → Fin 64 → Fin 128 → EReal
  xs : Fin 1536 → Fin 64 → EReal
  dy : Fin 1536 → Fin 64 → Fin 128 → EReal
  dys : Fin 1536 → Fin 64 → EReal
  gamma : Fin 64 → Fin 128 → EReal
  rstd : Fin 1536 → EReal

namespace Data

variable (D : Data)

/-- The normalized input; the gradient that comes in; their product. -/
def xhat (n : Fin 1536) (b : Fin 64) (l : Fin 128) : EReal := D.x n b l * D.xs n b * D.rstd n
def grad (n : Fin 1536) (b : Fin 64) (l : Fin 128) : EReal := D.dy n b l * D.dys n b

/-- The row's mean of (weighted gradient times normalized input). -/
def mean (n : Fin 1536) : EReal :=
  (∑ b : Fin 64, ∑ l : Fin 128, D.grad n b l * D.gamma b l * D.xhat n b l) * Ideal.ofBits .f32 0x39000000#32

/-- The gradient that goes out. -/
def dx (n : Fin 1536) (b : Fin 64) (l : Fin 128) : EReal :=
  D.rstd n * (D.grad n b l * D.gamma b l - D.xhat n b l * D.mean n)

/-- The block's largest magnitude over 448. -/
def amax (n : Fin 1536) (b : Fin 64) : EReal :=
  (Finset.univ.fold max ⊥ fun l : Fin 128 => max (D.dx n b l) (-D.dx n b l)) * Ideal.ofBits .f32 0x3B124925#32

/-- The three results: the block's scale, the codes before they are rounded, the weights' gradient. -/
def scale (n : Fin 1536) (b : Fin 64) : EReal := pow2 (expo (D.amax n b))
def code (n : Fin 1536) (b : Fin 64) (l : Fin 128) : EReal :=
  min (Ideal.ofBits .f32 0x43E00000#32) (max (Ideal.ofBits .f32 0xC3E00000#32) (D.dx n b l * pow2 (-expo (D.amax n b))))
def dgamma (b : Fin 64) (l : Fin 128) : EReal := ∑ n : Fin 1536, D.grad n b l * D.xhat n b l

end Data

/-- The f32 word of minus infinity. -/
theorem ofBits_neg_inf : Ideal.ofBits .f32 0xFF800000#32 = ⊥ := by simp [Ideal.ofBits, Ideal.ieee]

/-- Row `p` of the 128 rows that grid point `t` holds. -/
def row (t : Fin 12) (p : Fin 128) : Fin 1536 := ⟨128 * t.val + p.val, by omega⟩

/-- Channel `l` of block `b`. -/
def col (b : Fin 64) (l : Fin 128) : Fin 8192 := ⟨128 * b.val + l.val, by omega⟩

/-- A channel tells its block and its lane. -/
theorem col_inj {b b' : Fin 64} {l l' : Fin 128} (h : col b l = col b' l') : b = b' ∧ l = l' := by
  have h' : 128 * b.val + l.val = 128 * b'.val + l'.val := congrArg Fin.val h
  constructor <;> apply Fin.ext <;> omega

/-- The block and the lane of a channel. -/
def blockOf (q : Fin 8192) : Fin 64 := ⟨q.val / 128, by omega⟩
def laneOf (q : Fin 8192) : Fin 128 := ⟨q.val % 128, by omega⟩
theorem col_blockOf (q : Fin 8192) : col (blockOf q) (laneOf q) = q := Fin.ext (Nat.div_add_mod q.val 128)
theorem blockOf_col (b : Fin 64) (l : Fin 128) : blockOf (col b l) = b :=
  Fin.ext (show (128 * b.val + l.val) / 128 = b.val by omega)
theorem laneOf_col (b : Fin 64) (l : Fin 128) : laneOf (col b l) = l :=
  Fin.ext (show (128 * b.val + l.val) % 128 = l.val by omega)

/-- The three results as arrays. -/
def Data.dgammaArray (D : Data) : (⟨2, ![1, 8192]⟩ : Shape).Idx → EReal := fun i => D.dgamma (blockOf (i 1)) (laneOf (i 1))
def Data.codeArray (D : Data) : (⟨2, ![1536, 8192]⟩ : Shape).Idx → EReal := fun i => D.code (i 0) (blockOf (i 1)) (laneOf (i 1))
def Data.scaleArray (D : Data) : (⟨2, ![1536, 64]⟩ : Shape).Idx → EReal := fun i => D.scale (i 0) (i 1)

/-- A sum over the 1536 rows is a sum over the 12 grid points of the sums over their 128 rows. -/
theorem sum_rows (f : Fin 1536 → EReal) : ∑ n : Fin 1536, f n = ∑ t : Fin 12, ∑ p : Fin 128, f (row t p) := by
  rw [← Fintype.sum_prod_type' fun t p => f (row t p)]
  refine (Fintype.sum_equiv (finProdFinEquiv (m := 12) (n := 128)) _ _ fun x => congrArg f (Fin.ext ?_)).symm
  show 128 * x.1.val + x.2.val = x.2.val + 128 * x.1.val
  exact Nat.add_comm _ _

/-- Row `n` of the 1536 as batch and position: `n = 768 · batch + position`. -/
def batch (n : Fin 1536) : Fin 2 := ⟨n.val / 768, by omega⟩
def position (n : Fin 1536) : Fin 768 := ⟨n.val % 768, by omega⟩

/-- The data the six argument arrays hold. -/
def dataOf (a0 : (⟨3, ![2, 768, 8192]⟩ : Shape).Idx → EReal) (a1 : (⟨3, ![2, 768, 64]⟩ : Shape).Idx → EReal)
    (a2 : (⟨3, ![2, 768, 8192]⟩ : Shape).Idx → EReal) (a3 : (⟨3, ![2, 768, 64]⟩ : Shape).Idx → EReal)
    (a4 : (⟨1, ![8192]⟩ : Shape).Idx → EReal) (a5 : (⟨2, ![2, 768]⟩ : Shape).Idx → EReal) : Data where
  x n b l := a0 (ix3 (batch n) (position n) (col b l))
  xs n b := a1 (ix3 (batch n) (position n) b)
  dy n b l := a2 (ix3 (batch n) (position n) (col b l))
  dys n b := a3 (ix3 (batch n) (position n) b)
  gamma b l := a4 (ix1 (col b l))
  rstd n := a5 (ix2 (batch n) (position n))

end Cert.Proof

end
-- ==== Proof.BlockValue.lean ====
/- The value of one block over the extended reals: the kernel's functions of a block, read at a row and a lane. -/
module

public import proofs.«01_k».proof.Proof.Block
public import proofs.«01_k».proof.Proof.Spec
public import Idealize.ShloMosaic.Lib.Pointwise

@[expose] public section

set_option maxRecDepth 16384

noncomputable section

namespace Cert.Proof

open Cert.KernelIdeal Cert.KernelIdeal.Gen Idealize.ShloMosaic

/-- The loads `L` of grid point `t` read the data `D`. -/
structure Reads (L : Loads Ideal) (D : Data) (t : Fin 12) : Prop where
  rstd : ∀ p : Fin 128, L.rstd (ix2 p 0) = D.rstd (row t p)
  xs : ∀ (p : Fin 128) (b : Fin 64), L.xs (ix2 p b) = D.xs (row t p) b
  dys : ∀ (p : Fin 128) (b : Fin 64), L.dys (ix2 p b) = D.dys (row t p) b
  x : ∀ (b : Fin 64) (p l : Fin 128), L.x b (ix2 p l) = D.x (row t p) b l
  dy : ∀ (b : Fin 64) (p l : Fin 128), L.dy b (ix2 p l) = D.dy (row t p) b l
  gamma : ∀ (b : Fin 64) (l : Fin 128), L.gamma b (ix2 0 l) = D.gamma b l

variable {L : Loads Ideal} {D : Data} {t : Fin 12} (h : Reads L D t)

theorem rK_at (p : Fin 128) : rK L (ix2 p 0) = L.rstd (ix2 p 0) := by
  pointwise [rK]

theorem xsK_at (p : Fin 128) (b : Fin 64) : xsK L (ix2 p b) = L.xs (ix2 p b) * L.rstd (ix2 p 0) := by
  pointwise [xsK, rK]

theorem spread_at (v : FVec Ideal S128x1 .f32) (p l : Fin 128) : spread v (ix2 p l) = v (ix2 p 0) := by
  pointwise [spread]

theorem xhatK_at0 (b : Fin 64) (p l : Fin 128) :
    xhatK L b (ix2 p l) = L.x b (ix2 p l) * xsK L (ix2 p b) := by
  pointwise [xhatK, spread]

include h

theorem xhatK_at (b : Fin 64) (p l : Fin 128) : xhatK L b (ix2 p l) = D.xhat (row t p) b l := by
  rw [xhatK_at0, xsK_at, h.x, h.xs, h.rstd]
  exact (mul_assoc _ _ _).symm

theorem dyK_at (b : Fin 64) (p l : Fin 128) : dyK L b (ix2 p l) = D.grad (row t p) b l := by
  have : dyK L b (ix2 p l) = L.dy b (ix2 p l) * L.dys (ix2 p b) := by pointwise [dyK, dysK, spread]
  rw [this, h.dy, h.dys]; rfl

theorem gammaK_at (b : Fin 64) (p l : Fin 128) : gammaK L b (ix2 p l) = D.gamma b l := by
  have : gammaK L b (ix2 p l) = L.gamma b (ix2 0 l) := by pointwise [gammaK]
  rw [this, h.gamma]

theorem prodK_at (b : Fin 64) (p l : Fin 128) :
    prodK L b (ix2 p l) = D.grad (row t p) b l * D.xhat (row t p) b l := by
  have : prodK L b (ix2 p l) = dyK L b (ix2 p l) * xhatK L b (ix2 p l) := rfl
  rw [this, dyK_at h, xhatK_at h]

/-- Block `b` of the weights' gradient gains the sum over the point's rows. -/
theorem dgammaK_at (v : Vec Ideal S1x128 .f32) (b : Fin 64) (l : Fin 128) :
    dgammaK L v b (ix2 0 l) = v (ix2 0 l) + ∑ p : Fin 128, D.grad (row t p) b l * D.xhat (row t p) b l := by
  have : dgammaK L v b (ix2 0 l) = v (ix2 0 l) + ∑ p : Fin 128, prodK L b (ix2 p l) := by pointwise [dgammaK]
  rw [this]
  simp only [prodK_at h]

/-- One block's contribution to the row's mean. -/
theorem accK_succ (n : ℕ) (hn : n + 1 ≤ 64) (p l : Fin 128) :
    accK L (n + 1) hn (ix2 p l) = accK L n (Nat.le_of_succ_le hn) (ix2 p l)
      + D.grad (row t p) ⟨n, hn⟩ l * D.gamma ⟨n, hn⟩ l * D.xhat (row t p) ⟨n, hn⟩ l := by
  have : accK L (n + 1) hn (ix2 p l) = accK L n (Nat.le_of_succ_le hn) (ix2 p l)
      + prodK L ⟨n, hn⟩ (ix2 p l) * gammaK L ⟨n, hn⟩ (ix2 p l) := rfl
  rw [this, prodK_at h, gammaK_at h, mul_right_comm]

theorem accK_at (n : ℕ) (hn : n ≤ 64) (p l : Fin 128) :
    accK L n hn (ix2 p l) = ∑ b : Fin n, D.grad (row t p) (b.castLE hn) l * D.gamma (b.castLE hn) l * D.xhat (row t p) (b.castLE hn) l := by
  induction n with
  | zero =>
    have : accK L 0 hn (ix2 p l) = Ideal.ofBits .f32 0x00000000#32 := rfl
    rw [this, Ideal.ofBits_zero_f32]; simp
  | succ n ih =>
    rw [accK_succ h, ih, Fin.sum_univ_castSucc]; rfl

theorem cK_at (p : Fin 128) : cK L (ix2 p 0) = D.mean (row t p) := by
  have : cK L (ix2 p 0) = (∑ l : Fin 128, accK L 64 (Nat.le_refl 64) (ix2 p l)) * Ideal.ofBits .f32 0x39000000#32 := by
    pointwise [cK]
  rw [this]
  simp only [accK_at h]
  rw [Finset.sum_comm]
  rfl

theorem dxK_at (b : Fin 64) (p l : Fin 128) : dxK L b (ix2 p l) = D.dx (row t p) b l := by
  have : dxK L b (ix2 p l) = L.rstd (ix2 p 0)
      * (dyK L b (ix2 p l) * gammaK L b (ix2 p l) - xhatK L b (ix2 p l) * cK L (ix2 p 0)) := by
    pointwise [dxK, spread, rK]
  rw [this, h.rstd, dyK_at h, gammaK_at h, xhatK_at h, cK_at h]; rfl

end Cert.Proof

end
-- ==== Proof.BlockQuant.lean ====
/- The quantiser of one block over the extended reals: its exponent, its scale and its codes. -/
module

public import proofs.«01_k».proof.Proof.BlockValue

@[expose] public section

set_option maxRecDepth 16384

noncomputable section

namespace Cert.Proof

open Cert.KernelIdeal Cert.KernelIdeal.Gen Idealize.ShloMosaic

/-- Lane `j` of the table is `2 ^ (j - 126)`. -/
theorem powersK_at (j : Fin 252) : powersK (F := Ideal) (ix2 0 j) = pow2 ((j.val : ℤ) - 126) := by
  have hw : ∀ j : Fin 252, IntOp.shli .vector (IntOp.addi (BitVec.ofNat 32 j.val) 1#32) 23#32
      = BitVec.ofNat 32 (j.val + 1) <<< 23 := by decide +kernel
  have : powersK (F := Ideal) (ix2 0 j)
      = Ideal.ofBits .f32 (IntOp.shli .vector (IntOp.addi (BitVec.ofNat 32 j.val) 1#32) 23#32) := by
    pointwise [powersK]
  rw [this, hw, ofBits_field _ (by omega) (by omega)]
  congr 1; push_cast; ring

variable {L : Loads Ideal} {D : Data} {t : Fin 12} (h : Reads L D t)

include h

/-- The count is the level of the block's largest magnitude over 448. -/
theorem bitsK_at (b : Fin 64) (p : Fin 128) :
    bitsK L b (ix2 p 0) = IntOp.shli .vector (BitVec.ofNat 32 (level (D.amax (row t p) b))) 23#32 := by
  have : bitsK L b (ix2 p 0) = IntOp.shli .vector (Finset.univ.fold IntOp.addi (0#32) fun j : Fin 252 =>
      (BitVec.ofBool (decide (powersK (F := Ideal) (ix2 0 j) ≤
        (Finset.univ.fold max ⊥ fun l : Fin 128 => max (dxK L b (ix2 p l)) (-dxK L b (ix2 p l))) * Ideal.ofBits .f32 0x3B124925#32))).setWidth 32) 23#32 := by
    pointwise [bitsK]
    rw [ofBits_neg_inf]
    rfl
  rw [this, fold_count]
  simp only [powersK_at, dxK_at h]
  rfl

theorem expoK_at (b : Fin 64) (p : Fin 128) :
    expoK L b (ix2 p 0) = expoWord (BitVec.ofNat 32 (level (D.amax (row t p) b))) := by
  have : expoK L b (ix2 p 0) = Scalar.select (IntOp.cmpi .slt (bitsK L b (ix2 p 0)) 8388608#32) 0#32
      (IntOp.subi (IntOp.shrsi .vector (bitsK L b (ix2 p 0)) 23#32) 126#32) := rfl
  rw [this, bitsK_at h]; rfl

theorem scaleK_at (b : Fin 64) (p : Fin 128) : scaleK L b (ix2 p 0) = D.scale (row t p) b := by
  have : scaleK L b (ix2 p 0) = Ideal.ofBits .f32 (IntOp.shli .vector (IntOp.addi (expoK L b (ix2 p 0)) 127#32) 23#32) := rfl
  rw [this, expoK_at h, scale_word]; rfl

theorem codesK_at (b : Fin 64) (p l : Fin 128) : codesK L b (ix2 p l) = D.code (row t p) b l := by
  have : codesK L b (ix2 p l) = min (Ideal.ofBits .f32 0x43E00000#32) (max (Ideal.ofBits .f32 0xC3E00000#32)
      (dxK L b (ix2 p l) * Ideal.ofBits .f32 (IntOp.shli .vector (IntOp.addi (IntOp.subi 0#32 (expoK L b (ix2 p 0))) 127#32) 23#32))) := by
    pointwise [codesK, spread]
  rw [this, expoK_at h, inv_word, dxK_at h]; rfl

end Cert.Proof

end
-- ==== Proof.Outs.lean ====
/- What the body leaves in the three output buffers at a grid point, entry by entry. -/
module

public import proofs.«01_k».proof.Proof.Stores
public import proofs.«01_k».proof.Proof.BlockQuant
public import Idealize.ShloMosaic.Lib.Pipeline.Value
public import Idealize.ShloMosaic.Lib.Pipeline.ValueKit.Tiles

@[expose] public section

set_option maxRecDepth 16384

noncomputable section

namespace Cert.Proof

open Cert.KernelIdeal Cert.KernelIdeal.Gen Idealize.ShloMosaic Idealize.ShloMosaic.TcCoe Idealize.ShloMosaic.Tactic

/-- The input buffers `x0 … x5` of grid point `t` hold their part of the data `D`. -/
structure Holds (x0 : Vec Ideal S128x8192 .fp8e4m3) (x1 : Vec Ideal S128x64 .f32) (x2 : Vec Ideal S128x8192 .fp8e5m2)
    (x3 : Vec Ideal S128x64 .f32) (x4 : Vec Ideal S1x8192 .f32) (x5 : Vec Ideal S128x1 .f32) (D : Data) (t : Fin 12) : Prop where
  x : ∀ (p : Fin 128) (b : Fin 64) (l : Fin 128), x0 (ix2 p (col b l)) = D.x (row t p) b l
  xs : ∀ (p : Fin 128) (b : Fin 64), x1 (ix2 p b) = D.xs (row t p) b
  dy : ∀ (p : Fin 128) (b : Fin 64) (l : Fin 128), x2 (ix2 p (col b l)) = D.dy (row t p) b l
  dys : ∀ (p : Fin 128) (b : Fin 64), x3 (ix2 p b) = D.dys (row t p) b
  gamma : ∀ (b : Fin 64) (l : Fin 128), x4 (ix2 0 (col b l)) = D.gamma b l
  rstd : ∀ p : Fin 128, x5 (ix2 p 0) = D.rstd (row t p)

/-- Entry `(p, l)` of block `b` of a tile is the tile's entry `(p, 128 b + l)`; the same for a one-row tile and for a column. -/
theorem blockRect_at (b : Fin 64) (p l : Fin 128) : (blockRect b).idx (ix2 p l) = ix2 p (col b l) := by
  funext a; apply Fin.ext; match a with
  | ⟨0, _⟩ => show 0 + 1 * p.val = p.val; omega
  | ⟨1, _⟩ => show 128 * b.val + 1 * l.val = 128 * b.val + l.val; omega
theorem rowRect_at (b : Fin 64) (l : Fin 128) : (rowRect b).idx (ix2 0 l) = ix2 0 (col b l) := by
  funext a; apply Fin.ext; match a with
  | ⟨0, _⟩ => rfl
  | ⟨1, _⟩ => show 128 * b.val + 1 * l.val = 128 * b.val + l.val; omega
theorem colRect_at (b : Fin 64) (p : Fin 128) : (colRect b).idx (ix2 p 0) = ix2 p b := by
  funext a; apply Fin.ext; match a with
  | ⟨0, _⟩ => show 0 + 1 * p.val = p.val; omega
  | ⟨1, _⟩ => show b.val + 1 * 0 = b.val; omega

/-- The whole of a buffer, entry for entry. -/
theorem whole_at {n k : ℕ} (inb) (p : Fin n) (q : Fin k) :
    (Rect.unit (s := ⟨2, ![n, k]⟩) ![0, 0] ![n, k] inb).idx (ix2 p q) = ix2 p q := by
  funext a; apply Fin.ext; match a with
  | ⟨0, _⟩ => show 0 + 1 * p.val = p.val; omega
  | ⟨1, _⟩ => show 0 + 1 * q.val = q.val; omega

/-- A load of a rectangle of a whole buffer reads the buffer's contents at the rectangle's entries. -/
theorem load_at {sig : RefSig} {κ sp} {S : Shape} {e : EltTy} (a : Memref sig κ sp S e) (h : a.IsWhole) (X : Vec Ideal S e)
    (r : Rect S) (j : r.shape.Idx) : View.readAt (Elt Ideal) a.view r.toLoadRect (h.unread X) j = X (r.idx j) :=
  congrFun (h.read_unread X) (r.idx j)

/-- The body's loads at a grid point read the data the buffers hold. -/
theorem runLoads_reads {arg1 : Memref sig .tc .vmem S128x8192 .fp8e4m3} (harg1 : arg1.IsWhole) {arg2 : Memref sig .tc .vmem S128x64 .f32} (harg2 : arg2.IsWhole) {arg3 : Memref sig .tc .vmem S128x8192 .fp8e5m2} (harg3 : arg3.IsWhole) {arg4 : Memref sig .tc .vmem S128x64 .f32} (harg4 : arg4.IsWhole) {arg5 : Memref sig .tc .vmem S1x8192 .f32} (harg5 : arg5.IsWhole) {arg6 : Memref sig .tc .vmem S128x1 .f32} (harg6 : arg6.IsWhole)
    {x0 x1 x2 x3 x4 x5} {D : Data} {t : Fin 12} (h : Holds x0 x1 x2 x3 x4 x5 D t) :
    Reads (runLoads arg1 harg1 arg2 harg2 arg3 harg3 arg4 harg4 arg5 harg5 arg6 harg6 x0 x1 x2 x3 x4 x5) D t where
  rstd p := ((load_at ..).trans (congrArg x5 (whole_at ..))).trans (h.rstd p)
  xs p b := ((load_at ..).trans (congrArg x1 (whole_at ..))).trans (h.xs p b)
  dys p b := ((load_at ..).trans (congrArg x3 (whole_at ..))).trans (h.dys p b)
  x b p l := ((load_at ..).trans (congrArg x0 (blockRect_at ..))).trans (h.x p b l)
  dy b p l := ((load_at ..).trans (congrArg x2 (blockRect_at ..))).trans (h.dy p b l)
  gamma b l := ((load_at ..).trans (congrArg x4 (rowRect_at ..))).trans (h.gamma b l)

/-- The stores of the blocks below `n` are the blocks' stores. -/
theorem mem_stores {S : Shape} {e : EltTy} (f : Fin 64 → View.Piece (Elt Ideal) S e) (p : View.Piece (Elt Ideal) S e) :
    ∀ (n : ℕ) (h : n ≤ 64), p ∈ stores f n h ↔ ∃ b : Fin 64, b.val < n ∧ p = f b
  | 0, _ => by simp [stores]
  | n + 1, h => by
    rw [stores, List.mem_cons, mem_stores f p n]
    constructor
    · rintro (rfl | ⟨b, hb, rfl⟩)
      · exact ⟨⟨n, h⟩, Nat.lt_succ_self n, rfl⟩
      · exact ⟨b, Nat.lt_succ_of_lt hb, rfl⟩
    · rintro ⟨b, hb, rfl⟩
      rcases Nat.lt_succ_iff_lt_or_eq.mp hb with hb | hb
      · exact Or.inr ⟨b, hb, rfl⟩
      · exact Or.inl (congrArg f (Fin.ext hb))

/-- Where one block's store lands and no other block's does, the 64 stores leave that store's value. -/
theorem stores_at {S : Shape} {e : EltTy} (f : Fin 64 → View.Piece (Elt Ideal) S e) (y : S.Idx) (v : Elt Ideal e)
    (hc : ∃ b, y ∈ (f b).1.set) (hv : ∀ (b : Fin 64) (x : (f b).1.shape.Idx), (f b).1.idx x = y → (f b).2 x = v) :
    View.canon (stores f 64 (Nat.le_refl 64)) y = v := by
  refine View.canon_eq_of_allAt _ y v ?_ ?_
  · obtain ⟨b, hb⟩ := hc
    exact ⟨f b, (mem_stores f _ 64 _).mpr ⟨b, b.isLt, rfl⟩, hb⟩
  · intro p hp x hx
    obtain ⟨b, -, rfl⟩ := (mem_stores f p 64 _).mp hp
    exact hv b x hx

variable {L : Loads Ideal} {D : Data} {t : Fin 12} (h : Reads L D t)
include h

/-- The codes a grid point leaves; -/
theorem codeStores_at (p : Fin 128) (b : Fin 64) (l : Fin 128) :
    View.canon (codeStores L) (ix2 p (col b l)) = D.code (row t p) b l := by
  refine stores_at _ _ _ ⟨b, ?_⟩ ?_
  · rw [← blockRect_at b p l]; exact LoadRect.idx_mem _ _
  · intro b' x hx
    obtain ⟨p', l', rfl⟩ : ∃ (p' l' : Fin 128), x = ix2 p' l' := ⟨x 0, x 1, eq_ix2 x⟩
    have hx : (blockRect b').idx (ix2 p' l') = ix2 p (col b l) := hx
    rw [blockRect_at] at hx
    obtain rfl : p' = p := congrFun hx 0
    obtain ⟨rfl, rfl⟩ := col_inj (congrFun hx 1 : col b' l' = col b l)
    exact codesK_at h b' p' l'

/-- the scales; -/
theorem scaleStores_at (p : Fin 128) (b : Fin 64) :
    View.canon (scaleStores L) (ix2 p b) = D.scale (row t p) b := by
  refine stores_at _ _ _ ⟨b, ?_⟩ ?_
  · rw [← colRect_at b p]; exact LoadRect.idx_mem _ _
  · intro b' x hx
    obtain ⟨p', z, rfl⟩ : ∃ (p' : Fin 128) (z : Fin 1), x = ix2 p' z := ⟨x 0, x 1, eq_ix2 x⟩
    obtain rfl : z = 0 := Subsingleton.elim _ _
    have hx : (colRect b').idx (ix2 p' 0) = ix2 p b := hx
    rw [colRect_at] at hx
    obtain rfl : p' = p := congrFun hx 0
    obtain rfl : b' = b := congrFun hx 1
    exact scaleK_at h b' p'

/-- the weights' gradient, over what the row held; -/
theorem gradStores_at (old : Fin 64 → Vec Ideal S1x128 .f32) (b : Fin 64) (l : Fin 128) :
    View.canon (gradStores L old) (ix2 0 (col b l))
      = old b (ix2 0 l) + ∑ p : Fin 128, D.grad (row t p) b l * D.xhat (row t p) b l := by
  refine stores_at _ _ _ ⟨b, ?_⟩ ?_
  · rw [← rowRect_at b l]; exact LoadRect.idx_mem _ _
  · intro b' x hx
    obtain ⟨z, l', rfl⟩ : ∃ (z : Fin 1) (l' : Fin 128), x = ix2 z l' := ⟨x 0, x 1, eq_ix2 x⟩
    obtain rfl : z = 0 := Subsingleton.elim _ _
    have hx : (rowRect b').idx (ix2 0 l') = ix2 0 (col b l) := hx
    rw [rowRect_at] at hx
    obtain ⟨rfl, rfl⟩ := col_inj (congrFun hx 1 : col b' l' = col b l)
    exact dgammaK_at h (old b') b' l'

/-- and the weights' gradient at the first point, over the row zeroed there. -/
theorem gradStores0_at (arg7 : Memref sig .tc .vmem S1x8192 .f32) (b : Fin 64) (l : Fin 128) : ∀ (n : ℕ) (hn : n ≤ 64),
    View.canon (gradStores0 L arg7 n hn) (ix2 0 (col b l))
      = if b.val < n then ∑ p : Fin 128, D.grad (row t p) b l * D.xhat (row t p) b l else 0
  | 0, hn => by
    rw [if_neg (Nat.not_lt_zero _)]
    have hy := whole_at (n := 1) (k := 8192) inb_S1x8192_S1x8192_0_0 0 (col b l)
    rw [gradStores0, ← hy]
    refine (View.canon_cons_emb _ _ _ _).trans ?_
    exact Ideal.ofBits_zero_f32
  | n + 1, hn => by
    rw [gradStores0]
    by_cases hb : b.val = n
    · subst hb
      rw [if_pos (Nat.lt_succ_self _), ← rowRect_at b l]
      refine (View.canon_cons_emb _ _ _ _).trans ?_
      refine (dgammaK_at h _ b l).trans ?_
      rw [View.readCov_eq_canon']
      refine (congrArg (· + _) ((congrArg (View.canon _) (rowRect_at b l)).trans (gradStores0_at arg7 b l b.val _))).trans ?_
      rw [if_neg (Nat.lt_irrefl _)]
      exact zero_add _
    · rw [View.canon_cons_of_not_mem, gradStores0_at arg7 b l n]
      · exact if_congr (by omega) rfl rfl
      · intro hm
        obtain ⟨x, hx⟩ := LoadRect.exists_idx_of_mem _ hm
        obtain ⟨z, l', rfl⟩ : ∃ (z : Fin 1) (l' : Fin 128), x = ix2 z l' := ⟨x 0, x 1, eq_ix2 x⟩
        obtain rfl : z = 0 := Subsingleton.elim _ _
        have hx : (rowRect ⟨n, hn⟩).idx (ix2 0 l') = ix2 0 (col b l) := hx
        rw [rowRect_at] at hx
        exact hb (congrArg Fin.val (col_inj (congrFun hx 1 : col _ l' = col b l)).1).symm

end Cert.Proof

end
-- ==== Proof.Reshape.lean ====
/- The reshapes of both programs, read at an index: the 1536 rows are 2 batches of 768 positions, the 8192 channels are
   64 blocks of 128 lanes. -/
module

public import proofs.«01_k».proof.Proof.Spec

@[expose] public section

noncomputable section

namespace Cert.Proof

open Idealize.ShloMosaic

variable {α : Type}

/-- Batch and position give back the row. -/
theorem row_eq (n : Fin 1536) : 768 * (batch n).val + (position n).val = n.val := Nat.div_add_mod n.val 768

/-- A `2 × 768 × k` array as `1536 × k`. -/
theorem cast_rows {k : ℕ} (x : (⟨3, ![2, 768, k]⟩ : Shape).Idx → α) (h) (n : Fin 1536) (q : Fin k) :
    shapeCast ⟨2, ![1536, k]⟩ x h (ix2 n q) = x (ix3 (batch n) (position n) q) := by
  refine congrArg x (Shape.reshapeEquiv_eq_of_rowMajor h ?_)
  refine (rowMajor_val3 _ (768 * k) k rfl rfl).trans (Eq.trans ?_ (rowMajor_val2 _ k rfl).symm)
  show (batch n).val * (768 * k) + (position n).val * k + q.val = n.val * k + q.val
  rw [← row_eq n]; ring

/-- A `2 × 768` array as one column. -/
theorem cast_column (x : (⟨2, ![2, 768]⟩ : Shape).Idx → α) (h) (n : Fin 1536) :
    shapeCast ⟨2, ![1536, 1]⟩ x h (ix2 n 0) = x (ix2 (batch n) (position n)) := by
  refine congrArg x (Shape.reshapeEquiv_eq_of_rowMajor h ?_)
  refine (rowMajor_val2 _ 768 rfl).trans (Eq.trans ?_ (rowMajor_val2 _ 1 rfl).symm)
  show (batch n).val * 768 + (position n).val = n.val * 1 + 0
  have := row_eq n; omega

/-- A vector as one row. -/
theorem cast_row {k : ℕ} (x : (⟨1, ![k]⟩ : Shape).Idx → α) (h) (q : Fin k) :
    shapeCast ⟨2, ![1, k]⟩ x h (ix2 0 q) = x (ix1 q) := by
  refine congrArg x (Shape.reshapeEquiv_eq_of_rowMajor h ?_)
  refine (rowMajor_val1 _).trans (Eq.trans ?_ (rowMajor_val2 _ k rfl).symm)
  show q.val = 0 * k + q.val
  omega

/-- A `2 × 768 × 8192` array as rows, blocks, lanes. -/
theorem cast_blocks (x : (⟨3, ![2, 768, 8192]⟩ : Shape).Idx → α) (h) (n : Fin 1536) (b : Fin 64) (l : Fin 128) :
    shapeCast ⟨3, ![1536, 64, 128]⟩ x h (ix3 n b l) = x (ix3 (batch n) (position n) (col b l)) := by
  refine congrArg x (Shape.reshapeEquiv_eq_of_rowMajor h ?_)
  refine (rowMajor_val3 _ (768 * 8192) 8192 rfl rfl).trans (Eq.trans ?_ (rowMajor_val3 _ (64 * 128) 128 rfl rfl).symm)
  show (batch n).val * (768 * 8192) + (position n).val * 8192 + (128 * b.val + l.val) = n.val * (64 * 128) + b.val * 128 + l.val
  have := row_eq n; omega

/-- A `2 × 768 × 64` array as rows and blocks, one lane each. -/
theorem cast_scales (x : (⟨3, ![2, 768, 64]⟩ : Shape).Idx → α) (h) (n : Fin 1536) (b : Fin 64) :
    shapeCast ⟨3, ![1536, 64, 1]⟩ x h (ix3 n b 0) = x (ix3 (batch n) (position n) b) := by
  refine congrArg x (Shape.reshapeEquiv_eq_of_rowMajor h ?_)
  refine (rowMajor_val3 _ (768 * 64) 64 rfl rfl).trans (Eq.trans ?_ (rowMajor_val3 _ (64 * 1) 1 rfl rfl).symm)
  show (batch n).val * (768 * 64) + (position n).val * 64 + b.val = n.val * (64 * 1) + b.val * 1 + 0
  have := row_eq n; omega

/-- A `2 × 768` array as rows, one block and one lane each. -/
theorem cast_ones (x : (⟨2, ![2, 768]⟩ : Shape).Idx → α) (h) (n : Fin 1536) :
    shapeCast ⟨3, ![1536, 1, 1]⟩ x h (ix3 n 0 0) = x (ix2 (batch n) (position n)) := by
  refine congrArg x (Shape.reshapeEquiv_eq_of_rowMajor h ?_)
  refine (rowMajor_val2 _ 768 rfl).trans (Eq.trans ?_ (rowMajor_val3 _ (1 * 1) 1 rfl rfl).symm)
  show (batch n).val * 768 + (position n).val = n.val * (1 * 1) + 0 * 1 + 0
  have := row_eq n; omega

/-- A vector of channels as blocks and lanes. -/
theorem cast_channels (x : (⟨1, ![8192]⟩ : Shape).Idx → α) (h) (b : Fin 64) (l : Fin 128) :
    shapeCast ⟨3, ![1, 64, 128]⟩ x h (ix3 0 b l) = x (ix1 (col b l)) := by
  refine congrArg x (Shape.reshapeEquiv_eq_of_rowMajor h ?_)
  refine (rowMajor_val1 _).trans (Eq.trans ?_ (rowMajor_val3 _ (64 * 128) 128 rfl rfl).symm)
  show 128 * b.val + l.val = 0 * (64 * 128) + b.val * 128 + l.val
  omega

/-- Blocks and lanes as one row of channels; -/
theorem cast_one_row (x : (⟨2, ![64, 128]⟩ : Shape).Idx → α) (h) (b : Fin 64) (l : Fin 128) :
    shapeCast ⟨2, ![1, 8192]⟩ x h (ix2 0 (col b l)) = x (ix2 b l) := by
  refine congrArg x (Shape.reshapeEquiv_eq_of_rowMajor h ?_)
  refine (rowMajor_val2 _ 128 rfl).trans (Eq.trans ?_ (rowMajor_val2 _ 8192 rfl).symm)
  show b.val * 128 + l.val = 0 * 8192 + (128 * b.val + l.val)
  omega

/-- rows, blocks and lanes as rows of channels. -/
theorem cast_all_rows (x : (⟨3, ![1536, 64, 128]⟩ : Shape).Idx → α) (h) (n : Fin 1536) (b : Fin 64) (l : Fin 128) :
    shapeCast ⟨2, ![1536, 8192]⟩ x h (ix2 n (col b l)) = x (ix3 n b l) := by
  refine congrArg x (Shape.reshapeEquiv_eq_of_rowMajor h ?_)
  refine (rowMajor_val3 _ (64 * 128) 128 rfl rfl).trans (Eq.trans ?_ (rowMajor_val2 _ 8192 rfl).symm)
  show n.val * (64 * 128) + b.val * 128 + l.val = n.val * 8192 + (128 * b.val + l.val)
  omega

end Cert.Proof

end
-- ==== Proof.Inputs.lean ====
/- What the kernel's input windows hold at a grid point: its 128 rows of the arguments. -/
module

public import proofs.«01_k».proof.Proof.Outs
public import proofs.«01_k».proof.Proof.Reshape
public import Idealize.ShloMosaic.Lib.Pipeline.ValueKit.Geometry
public import Idealize.ShloMosaic.Lib.StableHlo.Run

@[expose] public section

set_option maxRecDepth 16384

noncomputable section

namespace Cert.Proof

open Cert.KernelIdeal Cert.KernelIdeal.Gen Idealize.ShloMosaic Idealize.ShloMosaic.TcCoe Idealize.ShloMosaic.Tactic

variable (m : (ℓ : Loc nD τ sig) → Buf (Elt Ideal) ℓ) (c : Dev nD)

/-- The data of the kernel's arguments. -/
def kernelData : Data :=
  dataOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The arrays the host hands the kernel are the arguments reshaped. -/
theorem V_main_v0 : V m c main_v0 = shapeCast S1536x8192 (m ((c : Thread nD τ).loc main_arg0)) shapeCasts_S2x768x8192_S1536x8192 := by
  show StableHlo.after hostOps0 _ (Proc.devRef .tc main_v0) = _
  unfold hostOps0; after_results; rfl
theorem V_main_v1 : V m c main_v1 = shapeCast S1536x64 (m ((c : Thread nD τ).loc main_arg1)) shapeCasts_S2x768x64_S1536x64 := by
  show StableHlo.after hostOps0 _ (Proc.devRef .tc main_v1) = _
  unfold hostOps0; after_results; rfl
theorem V_main_v2 : V m c main_v2 = shapeCast S1536x8192 (m ((c : Thread nD τ).loc main_arg2)) shapeCasts_S2x768x8192_S1536x8192 := by
  show StableHlo.after hostOps0 _ (Proc.devRef .tc main_v2) = _
  unfold hostOps0; after_results; rfl
theorem V_main_v3 : V m c main_v3 = shapeCast S1536x64 (m ((c : Thread nD τ).loc main_arg3)) shapeCasts_S2x768x64_S1536x64 := by
  show StableHlo.after hostOps0 _ (Proc.devRef .tc main_v3) = _
  unfold hostOps0; after_results; rfl
theorem V_main_v4 : V m c main_v4 = shapeCast S1x8192 (m ((c : Thread nD τ).loc main_arg4)) shapeCasts_S8192_S1x8192 := by
  show StableHlo.after hostOps0 _ (Proc.devRef .tc main_v4) = _
  unfold hostOps0; after_results; rfl
theorem V_main_v5 : V m c main_v5 = shapeCast S1536x1 (m ((c : Thread nD τ).loc main_arg5)) shapeCasts_S2x768_S1536x1 := by
  show StableHlo.after hostOps0 _ (Proc.devRef .tc main_v5) = _
  unfold hostOps0; after_results; rfl

/-- Grid point `t` as a number below 12. -/
def point (t : Fin cfg0.N) : Fin 12 := ⟨t.val, lt_of_lt_of_eq t.isLt N_0⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)

/-- The windows' blocks at grid point `t`: 128 rows of the arguments each, and the weights whole. -/
theorem hold_x (t : Fin cfg0.N) (p : Fin 128) (b : Fin 64) (l : Fin 128) :
    (iblk m c 0 t : Vec Ideal S128x8192 .fp8e4m3) (ix2 p (col b l)) = (kernelData m c).x (row (point t) p) b l := by
  have e : (win0_0.blk t).view.emb (ix2 p (col b l)) = ix2 (row (point t) p) (col b l) := by
    funext a; apply Fin.ext; match a with
    | ⟨0, _⟩ => blk_simp [index0] <;> exact congrArg (· + p.val) (Nat.mul_comm _ _)
    | ⟨1, _⟩ => blk_simp [index0]
  show V m c main_v0 ((win0_0.blk t).view.emb (ix2 p (col b l))) = _
  rw [e, V_main_v0]; exact cast_rows ..
theorem hold_xs (t : Fin cfg0.N) (p : Fin 128) (b : Fin 64) :
    (iblk m c 1 t : Vec Ideal S128x64 .f32) (ix2 p b) = (kernelData m c).xs (row (point t) p) b := by
  have e : (win0_1.blk t).view.emb (ix2 p b) = ix2 (row (point t) p) b := by
    funext a; apply Fin.ext; match a with
    | ⟨0, _⟩ => blk_simp [index1] <;> exact congrArg (· + p.val) (Nat.mul_comm _ _)
    | ⟨1, _⟩ => blk_simp [index1]
  show V m c main_v1 ((win0_1.blk t).view.emb (ix2 p b)) = _
  rw [e, V_main_v1]; exact cast_rows ..
theorem hold_dy (t : Fin cfg0.N) (p : Fin 128) (b : Fin 64) (l : Fin 128) :
    (iblk m c 2 t : Vec Ideal S128x8192 .fp8e5m2) (ix2 p (col b l)) = (kernelData m c).dy (row (point t) p) b l := by
  have e : (win0_2.blk t).view.emb (ix2 p (col b l)) = ix2 (row (point t) p) (col b l) := by
    funext a; apply Fin.ext; match a with
    | ⟨0, _⟩ => blk_simp [index2] <;> exact congrArg (· + p.val) (Nat.mul_comm _ _)
    | ⟨1, _⟩ => blk_simp [index2]
  show V m c main_v2 ((win0_2.blk t).view.emb (ix2 p (col b l))) = _
  rw [e, V_main_v2]; exact cast_rows ..
theorem hold_dys (t : Fin cfg0.N) (p : Fin 128) (b : Fin 64) :
    (iblk m c 3 t : Vec Ideal S128x64 .f32) (ix2 p b) = (kernelData m c).dys (row (point t) p) b := by
  have e : (win0_3.blk t).view.emb (ix2 p b) = ix2 (row (point t) p) b := by
    funext a; apply Fin.ext; match a with
    | ⟨0, _⟩ => blk_simp [index3] <;> exact congrArg (· + p.val) (Nat.mul_comm _ _)
    | ⟨1, _⟩ => blk_simp [index3]
  show V m c main_v3 ((win0_3.blk t).view.emb (ix2 p b)) = _
  rw [e, V_main_v3]; exact cast_rows ..
theorem hold_gamma (t : Fin cfg0.N) (b : Fin 64) (l : Fin 128) :
    (iblk m c 4 t : Vec Ideal S1x8192 .f32) (ix2 0 (col b l)) = (kernelData m c).gamma b l := by
  have e : (win0_4.blk t).view.emb (ix2 0 (col b l)) = ix2 0 (col b l) := by
    funext a; apply Fin.ext; match a with
    | ⟨0, _⟩ => blk_simp [index4]
    | ⟨1, _⟩ => blk_simp [index4]
  show V m c main_v4 ((win0_4.blk t).view.emb (ix2 0 (col b l))) = _
  rw [e, V_main_v4]; exact cast_row ..
theorem hold_rstd (t : Fin cfg0.N) (p : Fin 128) :
    (iblk m c 5 t : Vec Ideal S128x1 .f32) (ix2 p 0) = (kernelData m c).rstd (row (point t) p) := by
  have e : (win0_5.blk t).view.emb (ix2 p 0) = ix2 (row (point t) p) 0 := by
    funext a; apply Fin.ext; match a with
    | ⟨0, _⟩ => blk_simp [index5] <;> exact congrArg (· + p.val) (Nat.mul_comm _ _)
    | ⟨1, _⟩ => blk_simp [index5]
  show V m c main_v5 ((win0_5.blk t).view.emb (ix2 p 0)) = _
  rw [e, V_main_v5]; exact cast_column ..

/-- So at grid point `t` the input windows hold the rows of point `t`. -/
theorem holds (t : Fin cfg0.N) :
    Holds (iblk m c 0 t) (iblk m c 1 t) (iblk m c 2 t) (iblk m c 3 t) (iblk m c 4 t) (iblk m c 5 t) (kernelData m c) (point t) where
  x := hold_x m c t
  xs := hold_xs m c t
  dy := hold_dy m c t
  dys := hold_dys m c t
  gamma := hold_gamma m c t
  rstd := hold_rstd m c t

end Cert.Proof

end
-- ==== Proof.Arrays.lean ====
/- What the kernel's three result arrays hold at the end. -/
module

public import proofs.«01_k».proof.Proof.Inputs
public import proofs.«01_k».proof.Proof.Gen.KernelIdeal.Value

@[expose] public section

set_option maxRecDepth 16384

noncomputable section

namespace Cert.Proof

open Cert.KernelIdeal Cert.KernelIdeal.Gen Idealize.ShloMosaic Idealize.ShloMosaic.TcCoe Idealize.ShloMosaic.Tactic

variable (m : (ℓ : Loc nD τ sig) → Buf (Elt Ideal) ℓ) (c : Dev nD)

/-- After grid point `t` the buffer of the codes holds the codes of the point's rows; -/
theorem outs_code (t : Fin cfg0.N) (p : Fin 128) (b : Fin 64) (l : Fin 128) :
    (outsAt0 m c t.val t.isLt).2.1 (ix2 p (col b l)) = (kernelData m c).code (row (point t) p) b l := by
  have h := runLoads_reads (hs0_0 t) (hs0_1 t) (hs0_2 t) (hs0_3 t) (hs0_4 t) (hs0_5 t) (holds m c t)
  by_cases h0 : t.val % 12 = 0
  · rw [outsAt0_A m c t h0]
    dsimp only
    rw [out0_A_7, View.read_writes_junk_eq_canon, runA_code]
    exact codeStores_at h p b l
  · rw [outsAt0_B m c t h0]
    dsimp only
    rw [out0_B_7, View.read_writes_junk_eq_canon, runB_code]
    exact codeStores_at h p b l

/-- the buffer of the scales their scales; -/
theorem outs_scale (t : Fin cfg0.N) (p : Fin 128) (b : Fin 64) :
    (outsAt0 m c t.val t.isLt).2.2 (ix2 p b) = (kernelData m c).scale (row (point t) p) b := by
  have h := runLoads_reads (hs0_0 t) (hs0_1 t) (hs0_2 t) (hs0_3 t) (hs0_4 t) (hs0_5 t) (holds m c t)
  by_cases h0 : t.val % 12 = 0
  · rw [outsAt0_A m c t h0]
    dsimp only
    rw [out0_A_8, View.read_writes_junk_eq_canon, runA_scale]
    exact scaleStores_at h p b
  · rw [outsAt0_B m c t h0]
    dsimp only
    rw [out0_B_8, View.read_writes_junk_eq_canon, runB_scale]
    exact scaleStores_at h p b

/-- What grid point `t` adds to the weights' gradient. -/
def part (D : Data) (b : Fin 64) (l : Fin 128) (t : Fin 12) : EReal :=
  ∑ p : Fin 128, D.grad (row t p) b l * D.xhat (row t p) b l

/-- The row of the weights' gradient after the first point, -/
theorem outs_grad_first (t : Fin cfg0.N) (h0 : t.val % 12 = 0) (b : Fin 64) (l : Fin 128) :
    (outsAt0 m c t.val t.isLt).1 (ix2 0 (col b l)) = part (kernelData m c) b l (point t) := by
  have h := runLoads_reads (hs0_0 t) (hs0_1 t) (hs0_2 t) (hs0_3 t) (hs0_4 t) (hs0_5 t) (holds m c t)
  rw [outsAt0_A m c t h0]
  dsimp only
  rw [out0_A_6, View.read_writes_junk_eq_canon, runA_grad]
  exact (gradStores0_at h _ b l 64 _).trans (if_pos b.isLt)

/-- and after a later one. -/
theorem outs_grad_later (t : Fin cfg0.N) (h0 : ¬t.val % 12 = 0) (b : Fin 64) (l : Fin 128) :
    (outsAt0 m c t.val t.isLt).1 (ix2 0 (col b l))
      = (outsAt0 m c (t.val - 1) (Nat.lt_of_le_of_lt (Nat.sub_le _ _) t.isLt)).1 (ix2 0 (col b l))
        + part (kernelData m c) b l (point t) := by
  have h := runLoads_reads (hs0_0 t) (hs0_1 t) (hs0_2 t) (hs0_3 t) (hs0_4 t) (hs0_5 t) (holds m c t)
  rw [outsAt0_B m c t h0]
  dsimp only
  rw [out0_B_6, View.read_writes_junk_eq_canon, runB_grad]
  refine (gradStores_at h _ b l).trans (congrArg (· + _) ?_)
  exact (load_at ..).trans (congrArg _ (rowRect_at b l))

/-- So after point `n` it holds the sum of the points up to `n`. -/
theorem outs_grad (b : Fin 64) (l : Fin 128) : ∀ (n : ℕ) (hn : n < cfg0.N),
    (outsAt0 m c n hn).1 (ix2 0 (col b l))
      = ∑ s ∈ Finset.range (n + 1), if h : s < 12 then part (kernelData m c) b l ⟨s, h⟩ else 0
  | 0, hn => by
    rw [Finset.sum_range_one, dif_pos (by decide)]
    exact outs_grad_first m c ⟨0, hn⟩ rfl b l
  | n + 1, hn => by
    have hN : n + 1 < 12 := lt_of_lt_of_eq hn N_0
    rw [Finset.sum_range_succ, dif_pos hN, ← outs_grad b l n (Nat.lt_of_succ_lt hn)]
    exact outs_grad_later m c ⟨n + 1, hn⟩ (by dsimp only; omega) b l

/-- After the last point, that is the sum over all rows. -/
theorem outs_grad_last (t : Fin cfg0.N) (h : t.val = 11) (b : Fin 64) (l : Fin 128) :
    (outsAt0 m c t.val t.isLt).1 (ix2 0 (col b l)) = (kernelData m c).dgamma b l := by
  rw [outs_grad, h, Data.dgamma, sum_rows, Finset.sum_range]
  exact Finset.sum_congr rfl fun s _ => dif_pos s.isLt

theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)

/-- The array of the codes; -/
theorem final_code : (dats m 0 c).arrAt 7 cfg0.N = (kernelData m c).codeArray := by
  refine (dats m 0 c).arrAt_eq_of_covers 7 _ (by decide +kernel) fun t hf y => ?_
  obtain ⟨p, q, rfl⟩ : ∃ (p : Fin 128) (q : Fin 8192), y = ix2 p q := ⟨y 0, y 1, eq_ix2 y⟩
  have e : (win0_7.blk t).view.emb (ix2 p q) = ix2 (row (point t) p) q := by
    funext a; apply Fin.ext; match a with
    | ⟨0, _⟩ => blk_simp [index7] <;> exact congrArg (· + p.val) (Nat.mul_comm _ _)
    | ⟨1, _⟩ => blk_simp [index7]
  blk_simp
  rw [after0_7]
  refine Eq.trans ?_ (congrArg (kernelData m c).codeArray e).symm
  have h := outs_code m c t p (blockOf q) (laneOf q)
  rw [col_blockOf] at h
  exact h

/-- the array of the scales; -/
theorem final_scale : (dats m 0 c).arrAt 8 cfg0.N = (kernelData m c).scaleArray := by
  refine (dats m 0 c).arrAt_eq_of_covers 8 _ (by decide +kernel) fun t hf y => ?_
  obtain ⟨p, b, rfl⟩ : ∃ (p : Fin 128) (b : Fin 64), y = ix2 p b := ⟨y 0, y 1, eq_ix2 y⟩
  have e : (win0_8.blk t).view.emb (ix2 p b) = ix2 (row (point t) p) b := by
    funext a; apply Fin.ext; match a with
    | ⟨0, _⟩ => blk_simp [index8] <;> exact congrArg (· + p.val) (Nat.mul_comm _ _)
    | ⟨1, _⟩ => blk_simp [index8]
  blk_simp
  rw [after0_8]
  exact (outs_scale m c t p b).trans (congrArg (kernelData m c).scaleArray e).symm

/-- the array of the weights' gradient. -/
theorem final_grad : (dats m 0 c).arrAt 6 cfg0.N = (kernelData m c).dgammaArray := by
  refine (dats m 0 c).arrAt_eq_of_covers 6 _ (by decide +kernel) fun t hf y => ?_
  obtain ⟨z, q, rfl⟩ : ∃ (z : Fin 1) (q : Fin 8192), y = ix2 z q := ⟨y 0, y 1, eq_ix2 y⟩
  obtain rfl : z = 0 := Subsingleton.elim _ _
  have h11 : t.val = 11 := by have := (flush0_6 t).mp hf; have := lt_of_lt_of_eq t.isLt N_0; omega
  have e : (win0_6.blk t).view.emb (ix2 0 q) = ix2 0 q := by
    funext a; apply Fin.ext; match a with
    | ⟨0, _⟩ => blk_simp [index6]
    | ⟨1, _⟩ => blk_simp [index6]
  blk_simp
  rw [after0_6]
  refine Eq.trans ?_ (congrArg (kernelData m c).dgammaArray e).symm
  have h := outs_grad_last m c t h11 (blockOf q) (laneOf q)
  rw [col_blockOf] at h
  exact h

end Cert.Proof

end
-- ==== Proof.RefRun.lean ====
/- What the reference's run leaves: its three stored values, of the six arguments. -/
module

public import proofs.«01_k».proof.Proof.Gen.ReferenceIdeal.Frame
public import Idealize.ShloMosaic.PureOps.Ideal
public import Idealize.ShloMosaic.Lib.Pipeline.Value
public import Idealize.ShloMosaic.Lib.Pipeline.ValueKit.Geometry

@[expose] public section

noncomputable section

namespace Cert.Proof.Ref

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg) (c : Dev nD)

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-! ## At the one grid point every window's block is its whole array -/

theorem emb0 (t : Fin cfg0.N) (j : S2x768x8192.Idx) : (win0_0.blk t).view.emb j = j := by
  have e : ∀ t : Fin cfg0.N, win0_0.index t = ![0, 0, 0] := (by decide +kernel : ∀ t : Fin grid0.N, _)
  blk_ext [e]
theorem emb1 (t : Fin cfg0.N) (j : S2x768x64.Idx) : (win0_1.blk t).view.emb j = j := by
  have e : ∀ t : Fin cfg0.N, win0_1.index t = ![0, 0, 0] := (by decide +kernel : ∀ t : Fin grid0.N, _)
  blk_ext [e]
theorem emb2 (t : Fin cfg0.N) (j : S2x768x8192.Idx) : (win0_2.blk t).view.emb j = j := by
  have e : ∀ t : Fin cfg0.N, win0_2.index t = ![0, 0, 0] := (by decide +kernel : ∀ t : Fin grid0.N, _)
  blk_ext [e]
theorem emb3 (t : Fin cfg0.N) (j : S2x768x64.Idx) : (win0_3.blk t).view.emb j = j := by
  have e : ∀ t : Fin cfg0.N, win0_3.index t = ![0, 0, 0] := (by decide +kernel : ∀ t : Fin grid0.N, _)
  blk_ext [e]
theorem emb4 (t : Fin cfg0.N) (j : S8192.Idx) : (win0_4.blk t).view.emb j = j := by
  have e : ∀ t : Fin cfg0.N, win0_4.index t = ![0] := (by decide +kernel : ∀ t : Fin grid0.N, _)
  blk_ext [e]
theorem emb5 (t : Fin cfg0.N) (j : S2x768.Idx) : (win0_5.blk t).view.emb j = j := by
  have e : ∀ t : Fin cfg0.N, win0_5.index t = ![0, 0] := (by decide +kernel : ∀ t : Fin grid0.N, _)
  blk_ext [e]
theorem emb6 (t : Fin cfg0.N) (j : S1x8192.Idx) : (win0_6.blk t).view.emb j = j := by
  have e : ∀ t : Fin cfg0.N, win0_6.index t = ![0, 0] := (by decide +kernel : ∀ t : Fin grid0.N, _)
  blk_ext [e]
theorem emb7 (t : Fin cfg0.N) (j : S1536x8192.Idx) : (win0_7.blk t).view.emb j = j := by
  have e : ∀ t : Fin cfg0.N, win0_7.index t = ![0, 0] := (by decide +kernel : ∀ t : Fin grid0.N, _)
  blk_ext [e]
theorem emb8 (t : Fin cfg0.N) (j : S1536x64.Idx) : (win0_8.blk t).view.emb j = j := by
  have e : ∀ t : Fin cfg0.N, win0_8.index t = ![0, 0] := (by decide +kernel : ∀ t : Fin grid0.N, _)
  blk_ext [e]

theorem iblk0 (t : Fin cfg0.N) : iblk m c 0 t = m ((c : Thread nD τ).loc main_arg0) :=
  funext fun j => congrArg (m ((c : Thread nD τ).loc main_arg0)) (emb0 t j)
theorem iblk1 (t : Fin cfg0.N) : iblk m c 1 t = m ((c : Thread nD τ).loc main_arg1) :=
  funext fun j => congrArg (m ((c : Thread nD τ).loc main_arg1)) (emb1 t j)
theorem iblk2 (t : Fin cfg0.N) : iblk m c 2 t = m ((c : Thread nD τ).loc main_arg2) :=
  funext fun j => congrArg (m ((c : Thread nD τ).loc main_arg2)) (emb2 t j)
theorem iblk3 (t : Fin cfg0.N) : iblk m c 3 t = m ((c : Thread nD τ).loc main_arg3) :=
  funext fun j => congrArg (m ((c : Thread nD τ).loc main_arg3)) (emb3 t j)
theorem iblk4 (t : Fin cfg0.N) : iblk m c 4 t = m ((c : Thread nD τ).loc main_arg4) :=
  funext fun j => congrArg (m ((c : Thread nD τ).loc main_arg4)) (emb4 t j)
theorem iblk5 (t : Fin cfg0.N) : iblk m c 5 t = m ((c : Thread nD τ).loc main_arg5) :=
  funext fun j => congrArg (m ((c : Thread nD τ).loc main_arg5)) (emb5 t j)

/-! ## What the body stores -/

section
variable (a0 : Vec Ideal S2x768x8192 .fp8e4m3) (a1 : Vec Ideal S2x768x64 .f32) (a2 : Vec Ideal S2x768x8192 .fp8e5m2) (a3 : Vec Ideal S2x768x64 .f32) (a4 : Vec Ideal S8192 .f32) (a5 : Vec Ideal S2x768 .f32)

/-- The largest magnitudes, the weights' gradient, the codes and the scales as functions of the arguments. -/
theorem pay10_eq : k0_pay10 a0 a1 a2 a3 a4 a5 = k0_pay9 a0 a1 a2 a3 a4 a5 := by
  unfold k0_pay10
  rw [View.ld_unit_zero (S := S2x768x8192) zero3 _ a0, View.ld_unit_zero (S := S2x768x64) zero3 _ a1, View.ld_unit_zero (S := S2x768x8192) zero3 _ a2, View.ld_unit_zero (S := S2x768x64) zero3 _ a3, View.ld_unit_zero (S := S8192) zero1 _ a4, View.ld_unit_zero (S := S2x768) zero2 _ a5]
theorem out6_eq : out0_6 a0 a1 a2 a3 a4 a5 = k0_pay8 a0 a1 a2 a3 a5 := by
  unfold out0_6
  rw [View.canon_unit_zero zero2, View.ld_unit_zero (S := S2x768x8192) zero3 _ a0, View.ld_unit_zero (S := S2x768x64) zero3 _ a1, View.ld_unit_zero (S := S2x768x8192) zero3 _ a2, View.ld_unit_zero (S := S2x768x64) zero3 _ a3, View.ld_unit_zero (S := S2x768) zero2 _ a5]
theorem out7_eq : out0_7 a0 a1 a2 a3 a4 a5 = k0_pay3 (k0_pay7 a0 a1 a2 a3 a4 a5) (k0_pay9 a0 a1 a2 a3 a4 a5) := by
  unfold out0_7
  rw [View.canon_unit_zero zero2, pay10_eq, View.ld_unit_zero (S := S2x768x8192) zero3 _ a0, View.ld_unit_zero (S := S2x768x64) zero3 _ a1, View.ld_unit_zero (S := S2x768x8192) zero3 _ a2, View.ld_unit_zero (S := S2x768x64) zero3 _ a3, View.ld_unit_zero (S := S8192) zero1 _ a4, View.ld_unit_zero (S := S2x768) zero2 _ a5]
theorem out8_eq : out0_8 a0 a1 a2 a3 a4 a5 = k0_pay2 (k0_pay9 a0 a1 a2 a3 a4 a5) := by
  unfold out0_8
  rw [View.canon_unit_zero zero2, pay10_eq]
end

/-! ## The arrays at the end -/

theorem final6 : (dats m 0 c).arrAt 6 cfg0.N = k0_pay8 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 6 _ (by decide +kernel) fun t _ y => ?_
  blk_simp
  rw [after0_6, out6_eq, iblk0, iblk1, iblk2, iblk3, iblk5]
  exact (congrArg _ (emb6 t y)).symm
theorem final7 : (dats m 0 c).arrAt 7 cfg0.N = k0_pay3 (k0_pay7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (k0_pay9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 7 _ (by decide +kernel) fun t _ y => ?_
  blk_simp
  rw [after0_7, out7_eq, iblk0, iblk1, iblk2, iblk3, iblk4, iblk5]
  exact (congrArg _ (emb7 t y)).symm
theorem final8 : (dats m 0 c).arrAt 8 cfg0.N = k0_pay2 (k0_pay9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 8 _ (by decide +kernel) fun t _ y => ?_
  blk_simp
  rw [after0_8, out8_eq, iblk0, iblk1, iblk2, iblk3, iblk4, iblk5]
  exact (congrArg _ (emb8 t y)).symm

/-- The run of the reference: its results, and its arguments as they were. -/
theorem run : θ_run defs (onTc (τ := τ) (main (F := Ideal))) ⟨m, fun _ => 0, ρ⟩ fun r => ∀ c : Dev nD,
      r.2.mem ((c : Thread nD τ).loc main_v0_0) = k0_pay8 (m ((c : Thread nD τ).loc main_arg0)) (m ((c : Thread nD τ).loc main_arg1)) (m ((c : Thread nD τ).loc main_arg2)) (m ((c : Thread nD τ).loc main_arg3)) (m ((c : Thread nD τ).loc main_arg5))
      ∧ r.2.mem ((c : Thread nD τ).loc main_v0_1) = k0_pay3 (k0_pay7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (k0_pay9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_v0_2) = k0_pay2 (k0_pay9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_main m ρ)
  have kept (w : Fin cfg0.W) (hw : (cfg0.win w).isOut = false) := ((h c).1 w).trans (((dats m 0 c).arrAt_in w hw _).trans (A_eq m c w))
  exact ⟨((h c).1 6).trans (final6 m c), ((h c).1 7).trans (final7 m c), ((h c).1 8).trans (final8 m c),
    kept 0 rfl, kept 1 rfl, kept 2 rfl, kept 3 rfl, kept 4 rfl, kept 5 rfl⟩

end Cert.Proof.Ref

end
-- ==== Proof.RefValue.lean ====
/- The reference's three results, entry by entry. -/
module

public import proofs.«01_k».proof.Proof.Reshape
public import proofs.«01_k».proof.Proof.RefRun

@[expose] public section

set_option maxRecDepth 16384

noncomputable section

namespace Cert.Proof

open Cert.ReferenceIdeal Cert.ReferenceIdeal.Gen Idealize.ShloMosaic Idealize.ShloMosaic.TcCoe

/-! ## The constants -/

theorem ofBits_8192 : Ideal.ofBits .f32 0x46000000#32 = pow2 13 := ofBits_field 140 (by decide) (by decide)
theorem ofBits_inv_8192 : Ideal.ofBits .f32 0x39000000#32 = pow2 (-13) := ofBits_field 114 (by decide) (by decide)
theorem ofBits_two : Ideal.ofBits .f32 0x40000000#32 = ((2 : ℝ) : EReal) :=
  (ofBits_field 128 (by decide) (by decide)).trans (by simp [pow2])
theorem ofBits_smallest : Ideal.ofBits .f32 0x00800000#32 = pow2 (-126) := ofBits_field 1 (by decide) (by decide)
theorem ofBits_126 : Ideal.ofBits .f32 0x42FC0000#32 = ((126 : ℝ) : EReal) := by
  simp [Ideal.ofBits, Ideal.ieee]
  rw [← EReal.coe_mul]
  norm_num

/-- Dividing by 8192 is multiplying by its reciprocal. -/
theorem div_8192 (x : EReal) : Ideal.div x (Ideal.ofBits .f32 0x46000000#32) = x * Ideal.ofBits .f32 0x39000000#32 := by
  rw [ofBits_8192, ofBits_inv_8192]
  refine (Ideal.div_coe (zpow_ne_zero 13 two_ne_zero) x).trans (congrArg (x * ·) (congrArg _ ?_))
  rw [zpow_neg, one_div]

/-! ## The broadcasts and the reductions -/

theorem spread_block (Y : FVec Ideal S1536x64x1 .f32) (h) (n : Fin 1536) (b : Fin 64) (l : Fin 128) :
    broadcastTo S1536x64x128 Y h (ix3 n b l) = Y (ix3 n b 0) := by pointwise
theorem spread_row (Y : FVec Ideal S1536x1x1 .f32) (h) (n : Fin 1536) (b : Fin 64) (l : Fin 128) :
    broadcastTo S1536x64x128 Y h (ix3 n b l) = Y (ix3 n 0 0) := by pointwise
theorem spread_channel (Y : FVec Ideal S1x64x128 .f32) (h) (n : Fin 1536) (b : Fin 64) (l : Fin 128) :
    broadcastTo S1536x64x128 Y h (ix3 n b l) = Y (ix3 0 b l) := by pointwise
theorem cast_sum (Y : FVec Ideal S1536 .f32) (h) (n : Fin 1536) : shapeCast S1536x1x1 Y h (ix3 n 0 0) = Y (ix1 n) := by pointwise
theorem cast_max (Y : FVec Ideal S1536x64 .f32) (h) (n : Fin 1536) (b : Fin 64) :
    shapeCast S1536x64x1 Y h (ix3 n b 0) = Y (ix2 n b) := by pointwise
theorem cast_back (Y : FVec Ideal S1536x64x1 .f32) (h) (n : Fin 1536) (b : Fin 64) :
    shapeCast S1536x64 Y h (ix2 n b) = Y (ix3 n b 0) := by pointwise

/-- Clipping to the codes' range, and the power of two of a negated exponent. -/
theorem clip_at (X : FVec Ideal S1536x64x128 .f32) (h) (n : Fin 1536) (b : Fin 64) (l : Fin 128) :
    truncf .fp8e4m3 (minimumf (broadcast S1536x64x128 (Scalar.ofBits .f32 0x43E00000#32))
      (maximumf (broadcast S1536x64x128 (Scalar.ofBits .f32 0xC3E00000#32)) X)) h (ix3 n b l)
      = min (Ideal.ofBits .f32 0x43E00000#32) (max (Ideal.ofBits .f32 0xC3E00000#32) (X (ix3 n b l))) := by pointwise
theorem exp2_at (X : FVec Ideal S1536x64x1 .f32) (n : Fin 1536) (b : Fin 64) : exp2 X (ix3 n b 0) = Ideal.exp2 (X (ix3 n b 0)) := rfl
theorem inv_at (X : FVec Ideal S1536x64x1 .f32) (n : Fin 1536) (b : Fin 64) :
    exp2 (subf (broadcast S1536x64x1 (Scalar.ofBits .f32 0x00000000#32)) X) (ix3 n b 0) = Ideal.exp2 (-X (ix3 n b 0)) := by
  pointwise
  exact congrArg Ideal.exp2 (zero_sub (X (ix3 n b 0)))

theorem sum_row_at (X : FVec Ideal S1536x64x128 .f32) (n : Fin 1536) :
    multiReduction .add [1, 2] S1536 X 0x00000000#32 reduces_S1536x64x128_S1536 (.inl rfl) rfl (ix1 n)
      = ∑ b : Fin 64, ∑ l : Fin 128, X (ix3 n b l) := by pointwise
theorem sum_channel_at (X : FVec Ideal S1536x64x128 .f32) (b : Fin 64) (l : Fin 128) :
    multiReduction .add [0] S64x128 X 0x00000000#32 reduces_S1536x64x128_S64x128 (.inl rfl) rfl (ix2 b l)
      = ∑ n : Fin 1536, X (ix3 n b l) := by pointwise
theorem max_block_at (X : FVec Ideal S1536x64x128 .f32) (n : Fin 1536) (b : Fin 64) :
    multiReduction .maximumf [2] S1536x64 (absf X) 0xFF800000#32 reduces_S1536x64x128_S1536x64 (.inl rfl) rfl (ix2 n b)
      = Finset.univ.fold max ⊥ fun l : Fin 128 => max (X (ix3 n b l)) (-X (ix3 n b l)) := by
  pointwise
  rw [ofBits_neg_inf]; rfl

/-! ## The values -/

section
variable (a0 : Vec Ideal S2x768x8192 .fp8e4m3) (a1 : Vec Ideal S2x768x64 .f32) (a2 : Vec Ideal S2x768x8192 .fp8e5m2)
  (a3 : Vec Ideal S2x768x64 .f32) (a4 : Vec Ideal S8192 .f32) (a5 : Vec Ideal S2x768 .f32)
  (n : Fin 1536) (b : Fin 64) (l : Fin 128)

theorem ref_grad : k0_pay4 a2 a3 (ix3 n b l) = Data.grad (dataOf a0 a1 a2 a3 a4 a5) n b l :=
  congrArg₂ (fun u v : EReal => u * v) (cast_blocks (α := EReal) ..) ((spread_block ..).trans (cast_scales ..))

theorem ref_rstd : k0_pay5 a5 (ix3 n 0 0) = Data.rstd (dataOf a0 a1 a2 a3 a4 a5) n := cast_ones ..

theorem ref_xhat : k0_pay6 a0 a1 a5 (ix3 n b l) = Data.xhat (dataOf a0 a1 a2 a3 a4 a5) n b l :=
  congrArg₂ (fun u v : EReal => u * v)
    (congrArg₂ (fun u v : EReal => u * v) (cast_blocks (α := EReal) ..) ((spread_block ..).trans (cast_scales ..)))
    ((spread_row ..).trans (ref_rstd a0 a1 a2 a3 a4 a5 n))

theorem ref_weighted (h) (h') :
    mulf (k0_pay4 a2 a3) (broadcastTo S1536x64x128 (shapeCast S1x64x128 a4 h) h') (ix3 n b l)
      = Data.grad (dataOf a0 a1 a2 a3 a4 a5) n b l * Data.gamma (dataOf a0 a1 a2 a3 a4 a5) b l :=
  congrArg₂ (fun u v : EReal => u * v) (ref_grad a0 a1 a2 a3 a4 a5 n b l) ((spread_channel ..).trans (cast_channels ..))

theorem ref_mean : Ideal.div (shapeCast S1536x1x1 (multiReduction .add [1, 2] S1536 (mulf (mulf (k0_pay4 a2 a3)
      (broadcastTo S1536x64x128 (shapeCast S1x64x128 a4 shapeCasts_S8192_S1x64x128) broadcasts_S1x64x128_S1536x64x128)) (k0_pay6 a0 a1 a5))
      0x00000000#32 reduces_S1536x64x128_S1536 (.inl rfl) rfl) shapeCasts_S1536_S1536x1x1 (ix3 n 0 0)) (Ideal.ofBits .f32 0x46000000#32)
    = Data.mean (dataOf a0 a1 a2 a3 a4 a5) n := by
  rw [div_8192, cast_sum, sum_row_at]
  refine congrArg (· * _) (Finset.sum_congr rfl fun b _ => Finset.sum_congr rfl fun l _ => ?_)
  exact congrArg₂ (fun u v : EReal => u * v) (ref_weighted a0 a1 a2 a3 a4 a5 n b l _ _) (ref_xhat a0 a1 a2 a3 a4 a5 n b l)

theorem ref_dx : k0_pay7 a0 a1 a2 a3 a4 a5 (ix3 n b l) = Data.dx (dataOf a0 a1 a2 a3 a4 a5) n b l := by
  refine congrArg₂ (fun u v : EReal => u * v) ((spread_row ..).trans (ref_rstd a0 a1 a2 a3 a4 a5 n)) ?_
  refine congrArg₂ (fun u v : EReal => u - v) (ref_weighted a0 a1 a2 a3 a4 a5 n b l _ _) ?_
  refine congrArg₂ (fun u v : EReal => u * v) (ref_xhat a0 a1 a2 a3 a4 a5 n b l) ?_
  exact (spread_row ..).trans (ref_mean a0 a1 a2 a3 a4 a5 n)

theorem ref_amax : k0_pay9 a0 a1 a2 a3 a4 a5 (ix2 n b) * Ideal.ofBits .f32 0x3B124925#32 = Data.amax (dataOf a0 a1 a2 a3 a4 a5) n b := by
  unfold k0_pay9
  rw [max_block_at]
  simp only [ref_dx]
  rfl

/-- The exponent of a block, as the reference computes it. -/
theorem ref_expo (v : FVec Ideal S1536x64 .f32) :
    k0_pay1 v (ix3 n b 0) = ((expo (v (ix2 n b) * Ideal.ofBits .f32 0x3B124925#32) : ℝ) : EReal) := by
  unfold k0_pay1
  generalize hw : shapeCast S1536x64x1 v shapeCasts_S1536x64_S1536x64x1 = w
  have hv : v (ix2 n b) = w (ix3 n b 0) := by rw [← hw]; exact (cast_max ..).symm
  rw [hv, ← refExpo_eq]
  pointwise
  rw [ofBits_smallest, ofBits_two, ofBits_126]
  rfl

/-- The scales; -/
theorem ref_scale : k0_pay2 (k0_pay9 a0 a1 a2 a3 a4 a5) (ix2 n b) = Data.scale (dataOf a0 a1 a2 a3 a4 a5) n b := by
  unfold k0_pay2
  rw [cast_back]
  refine (exp2_at _ n b).trans ((congrArg Ideal.exp2 (ref_expo n b _)).trans ((exp2_int _).trans ?_))
  exact congrArg (fun v => pow2 (expo v)) (ref_amax a0 a1 a2 a3 a4 a5 n b)

/-- the codes; -/
theorem ref_code : k0_pay3 (k0_pay7 a0 a1 a2 a3 a4 a5) (k0_pay9 a0 a1 a2 a3 a4 a5) (ix2 n (col b l)) = Data.code (dataOf a0 a1 a2 a3 a4 a5) n b l := by
  unfold k0_pay3
  refine (cast_all_rows (α := EReal) ..).trans ((clip_at _ _ n b l).trans ?_)
  refine congrArg (fun u : EReal => min (Ideal.ofBits .f32 0x43E00000#32) (max (Ideal.ofBits .f32 0xC3E00000#32) u)) ?_
  refine congrArg₂ (fun u v : EReal => u * v) (ref_dx a0 a1 a2 a3 a4 a5 n b l) ((spread_block ..).trans ?_)
  refine (inv_at _ n b).trans ((congrArg (fun e : EReal => Ideal.exp2 (-e)) (ref_expo n b _)).trans ((exp2_neg_int _).trans ?_))
  exact congrArg (fun v => pow2 (-expo v)) (ref_amax a0 a1 a2 a3 a4 a5 n b)

/-- the weights' gradient. -/
theorem ref_dgamma : k0_pay8 a0 a1 a2 a3 a5 (ix2 0 (col b l)) = Data.dgamma (dataOf a0 a1 a2 a3 a4 a5) b l := by
  refine (cast_one_row (α := EReal) ..).trans ((sum_channel_at ..).trans (Finset.sum_congr rfl fun n _ => ?_))
  exact congrArg₂ (fun u v : EReal => u * v) (ref_grad a0 a1 a2 a3 a4 a5 n b l) (ref_xhat a0 a1 a2 a3 a4 a5 n b l)

/-- The three as arrays. -/
theorem ref_dgammaArray : k0_pay8 a0 a1 a2 a3 a5 = Data.dgammaArray (dataOf a0 a1 a2 a3 a4 a5) := by
  funext i
  obtain ⟨z, q, rfl⟩ : ∃ (z : Fin 1) (q : Fin 8192), i = ix2 z q := ⟨i 0, i 1, eq_ix2 i⟩
  obtain rfl : z = 0 := Subsingleton.elim _ _
  have h := ref_dgamma a0 a1 a2 a3 a4 a5 (blockOf q) (laneOf q)
  rw [col_blockOf] at h
  exact h
theorem ref_codeArray : k0_pay3 (k0_pay7 a0 a1 a2 a3 a4 a5) (k0_pay9 a0 a1 a2 a3 a4 a5) = Data.codeArray (dataOf a0 a1 a2 a3 a4 a5) := by
  funext i
  obtain ⟨n, q, rfl⟩ : ∃ (n : Fin 1536) (q : Fin 8192), i = ix2 n q := ⟨i 0, i 1, eq_ix2 i⟩
  have h := ref_code a0 a1 a2 a3 a4 a5 n (blockOf q) (laneOf q)
  rw [col_blockOf] at h
  exact h
theorem ref_scaleArray : k0_pay2 (k0_pay9 a0 a1 a2 a3 a4 a5) = Data.scaleArray (dataOf a0 a1 a2 a3 a4 a5) := by
  funext i
  obtain ⟨n, b, rfl⟩ : ∃ (n : Fin 1536) (b : Fin 64), i = ix2 n b := ⟨i 0, i 1, eq_ix2 i⟩
  exact ref_scale a0 a1 a2 a3 a4 a5 n b
end

end Cert.Proof

end
-- ==== Proof.Equation.lean ====
/- Over the extended reals the kernel and the reference leave the same three results. -/
module

public import proofs.«01_k».proof.Defs
public import proofs.«01_k».proof.Proof.Arrays
public import proofs.«01_k».proof.Proof.RefValue

@[expose] public section

noncomputable section

namespace Cert.Proof

open Idealize.ShloMosaic Idealize.ShloMosaic.TcCoe Idealize.SL.Sem

theorem algebraic : Cert.algebraic_KernelIdeal_ReferenceIdeal := by
  intro m g m' g' _ hargs
  refine ⟨fun c => (kernelData m c).dgammaArray, fun c => (kernelData m c).codeArray, fun c => (kernelData m c).scaleArray, ?_, ?_⟩
  · refine (θ_run _ _ _).mono (fun r h c => ?_) (Cert.KernelIdeal.Value.run_blocks m g)
    obtain ⟨h6, h7, h8, hrest⟩ := h c
    exact ⟨h6.trans (final_grad m c), h7.trans (final_code m c), h8.trans (final_scale m c), hrest⟩
  · refine (θ_run _ _ _).mono (fun r h c => ?_) (Ref.run m' g')
    obtain ⟨h6, h7, h8, hrest⟩ := h c
    obtain ⟨e0, e1, e2, e3, e4, e5⟩ := hargs c
    have hd : dataOf (m' (c.tc.loc Cert.ReferenceIdeal.main_arg0)) (m' (c.tc.loc Cert.ReferenceIdeal.main_arg1))
        (m' (c.tc.loc Cert.ReferenceIdeal.main_arg2)) (m' (c.tc.loc Cert.ReferenceIdeal.main_arg3))
        (m' (c.tc.loc Cert.ReferenceIdeal.main_arg4)) (m' (c.tc.loc Cert.ReferenceIdeal.main_arg5)) = kernelData m c := by
      rw [e0, e1, e2, e3, e4, e5]
      rfl
    exact ⟨h6.trans ((ref_dgammaArray _ _ _ _ _ _).trans (congrArg Data.dgammaArray hd)),
      h7.trans ((ref_codeArray _ _ _ _ _ _).trans (congrArg Data.codeArray hd)),
      h8.trans ((ref_scaleArray _ _ _ _ _ _).trans (congrArg Data.scaleArray hd)), hrest⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
